-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S1024x1024 : Shape := ⟨2, ![1024, 1024]⟩
abbrev S256x1024 : Shape := ⟨2, ![256, 1024]⟩
abbrev S3x256x256 : Shape := ⟨3, ![3, 256, 256]⟩
abbrev S3 : Shape := ⟨1, ![3]⟩
abbrev S_ : Shape := ⟨0, ![]⟩
abbrev S256x256 : Shape := ⟨2, ![256, 256]⟩
abbrev S1x256x256 : Shape := ⟨3, ![1, 256, 256]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S1024x256, .bf16⟩
  | .hbm, ⟨1, _⟩ => ⟨S1024x1024, .bf16⟩
  | .hbm, ⟨2, _⟩ => ⟨S256x1024, .f32⟩
  | .local _ .vmem, ⟨0, _⟩ => ⟨S1024x256, .bf16⟩
  | .local _ .vmem, ⟨1, _⟩ => ⟨S1024x1024, .bf16⟩
  | .local _ .vmem, ⟨2, _⟩ => ⟨S256x1024, .f32⟩
  | .local _ .vmem, ⟨3, _⟩ => ⟨S3x256x256, .bf16⟩
  | .local _ .vmem, ⟨4, _⟩ => ⟨S3x256x256, .bf16⟩
  | .local _ .vmem, ⟨5, _⟩ => ⟨S1024x1024, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c256_i32 : BitVec 32 := 256#32
  let v54 : BitVec 32 := Scalar.muli v53 c256_i32
  let v55 : Index := Scalar.indexCast v54
  let c0 : Index := 0#32
  ![v55.toNat, 0]
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_42 : BitVec 32 := 1#32
  let v61 : BitVec 32 := Scalar.muli v53 c1_i32_42
  let v62 : BitVec 32 := Scalar.addi c0_i32_43 v61
  v62.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v71 : BitVec 32 := Scalar.addi v2 c2_i32_48
  let c4_i32_49 : BitVec 32 := 4#32
  let c0_i32_50 : BitVec 32 := 0#32
  let v72 : BitVec 1 := Scalar.cmpi .eq c4_i32_49 c0_i32_50
  let c1_i32_51 : BitVec 32 := 1#32
  let v73 : BitVec 32 := Scalar.select v72 c1_i32_51 c4_i32_49
  let v74 : BitVec 32 := Scalar.remsi v71 v73
  let c0_i32_53 : BitVec 32 := 0#32
  let v76 : BitVec 1 := Scalar.cmpi .slt v74 c0_i32_53
  let c0_i32_54 : BitVec 32 := 0#32
  let v77 : BitVec 1 := Scalar.cmpi .slt v73 c0_i32_54
  let v78 : BitVec 1 := Scalar.xori v76 v77
  let c0_i32_52 : BitVec 32 := 0#32
  let v75 : BitVec 1 := Scalar.cmpi .ne v74 c0_i32_52
  let v79 : BitVec 1 := Scalar.andi v78 v75
  let v80 : BitVec 32 := Scalar.addi v74 v73
  let v81 : BitVec 32 := Scalar.select v79 v80 v74
  let c1_i32_63 : BitVec 32 := 1#32
  let v89 : BitVec 32 := Scalar.muli v81 c1_i32_63
  let v90 : BitVec 32 := Scalar.addi c0_i32_64 v89
  v90.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_69 : BitVec 32 := 3#32
  let v99 : BitVec 32 := Scalar.addi v2 c3_i32_69
  let c4_i32_70 : BitVec 32 := 4#32
  let c0_i32_71 : BitVec 32 := 0#32
  let v100 : BitVec 1 := Scalar.cmpi .eq c4_i32_70 c0_i32_71
  let c1_i32_72 : BitVec 32 := 1#32
  let v101 : BitVec 32 := Scalar.select v100 c1_i32_72 c4_i32_70
  let v102 : BitVec 32 := Scalar.remsi v99 v101
  let c0_i32_74 : BitVec 32 := 0#32
  let v104 : BitVec 1 := Scalar.cmpi .slt v102 c0_i32_74
  let c0_i32_75 : BitVec 32 := 0#32
  let v105 : BitVec 1 := Scalar.cmpi .slt v101 c0_i32_75
  let v106 : BitVec 1 := Scalar.xori v104 v105
  let c0_i32_73 : BitVec 32 := 0#32
  let v103 : BitVec 1 := Scalar.cmpi .ne v102 c0_i32_73
  let v107 : BitVec 1 := Scalar.andi v106 v103
  let v108 : BitVec 32 := Scalar.addi v102 v101
  let v109 : BitVec 32 := Scalar.select v107 v108 v102
  let c1_i32_84 : BitVec 32 := 1#32
  let v117 : BitVec 32 := Scalar.muli v109 c1_i32_84
  let v118 : BitVec 32 := Scalar.addi c0_i32_85 v117
  v118.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_94 : BitVec 32 := 256#32
  let v132 : BitVec 32 := Scalar.muli v2 c256_i32_94
  let v133 : Index := Scalar.indexCast v132
  let c0_95 : Index := 0#32
  ![v133.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_96 : BitVec 32 := 256#32
  let v136 : BitVec 32 := Scalar.muli v2 c256_i32_96
  let v137 : Index := Scalar.indexCast v136
  let c0_97 : Index := 0#32
  ![v137.toNat, 0]
def k0_off4 (d0 : Dev nD) (c1_i32_110 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v149 : BitVec 32 := Scalar.subi v2 c1_i32_110
  let c4_i32_111 : BitVec 32 := 4#32
  let c0_i32_112 : BitVec 32 := 0#32
  let v150 : BitVec 1 := Scalar.cmpi .eq c4_i32_111 c0_i32_112
  let c1_i32_113 : BitVec 32 := 1#32
  let v151 : BitVec 32 := Scalar.select v150 c1_i32_113 c4_i32_111
  let v152 : BitVec 32 := Scalar.remsi v149 v151
  let c0_i32_115 : BitVec 32 := 0#32
  let v154 : BitVec 1 := Scalar.cmpi .slt v152 c0_i32_115
  let c0_i32_116 : BitVec 32 := 0#32
  let v155 : BitVec 1 := Scalar.cmpi .slt v151 c0_i32_116
  let v156 : BitVec 1 := Scalar.xori v154 v155
  let c0_i32_114 : BitVec 32 := 0#32
  let v153 : BitVec 1 := Scalar.cmpi .ne v152 c0_i32_114
  let v157 : BitVec 1 := Scalar.andi v156 v153
  let v158 : BitVec 32 := Scalar.addi v152 v151
  let v159 : BitVec 32 := Scalar.select v157 v158 v152
  let c256_i32_122 : BitVec 32 := 256#32
  let v164 : BitVec 32 := Scalar.muli v159 c256_i32_122
  let v165 : Index := Scalar.indexCast v164
  let c0_123 : Index := 0#32
  ![v165.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Protocol.lean ====
/-
# The exchange protocol of the fused all-to-all matrix product

Four devices; the kernel of device `c` computes rows `[256 c, 256 c + 256)` of `max (x · w) 0`, of which it holds the
columns `[256 c, 256 c + 256)` of `x` and the whole of `w`. Each device sends each of the three others the
`256 × 256` block of its `x` that the other one needs, and adds up the four partial products.

The seven semaphores a device owns, and who does what on them (`j : Fin 3` stands for the displacement `j + 1`; `fwd j c`
is the device `j + 1` places after `c`, `bwd j c` the one `j + 1` places before it):

* the BARRIER semaphore. Device `c` raises it by one on `fwd 0 c`, `fwd 1 c`, `fwd 2 c`, and waits for three on its own.
  The unit that `fwd i c` puts on `c`'s barrier is duty `i`; it hands `c` the landing slot `i` of `fwd i c` — the slot
  that `c` writes into — and the fact that the receive semaphore of that slot is still in its first round;
* the RECEIVE semaphore of slot `j`, raised once, by the transfer that `bwd j c` issues; the landing hands `c` its own
  landing slot `j` holding the block of `bwd j c`'s `x` that `c` needs;
* the SEND semaphore of slot `j`, raised once, by `c`'s own transfer to `fwd j c`; it gives back the staging slot `j`.

Order: a barrier lies below the receive semaphores, everything else below both; at the barrier wait a device owes only
receive credit, and at the later waits nothing.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy of the rounds algebra, and the exchange's, with duties named by `Fin 3` -/

/-- The rounds algebra of the exchange. -/
abbrev UX : Type := URounds (GSem nD τ sig) (Fin 3)
/-- Both copies. -/
abbrev UU : Type := UR sig nD τ × UX

local notation "𝕄" => MT nD τ sig Unit (Elt F) ℕ UU ℕ

/-- Where the pipeline's copy sits. -/
abbrev EP : Emb (UR sig nD τ) (MT nD τ sig Unit (Elt F) ℕ UU ℕ) := embL
/-- Where the exchange's copy sits. -/
abbrev EX : Emb UX (MT nD τ sig Unit (Elt F) ℕ UU ℕ) := embR

/-! ## The devices around the circle -/

set_option backward.proofsInPublic true in
/-- The device `j + 1` places after `c`. -/
def fwd (j : Fin 3) (c : Dev nD) : Dev nD := ⟨(c.val + j.val + 1) % 4, Nat.mod_lt _ (by decide)⟩
/-- The device `j + 1` places before `c`, that is `3 - j` places after it. -/
def bwd (j : Fin 3) (c : Dev nD) : Dev nD := fwd j.rev c

/-- Back and forth. -/
theorem fwd_bwd (j : Fin 3) (c : Dev nD) : fwd j (bwd j c) = c := by revert j c; decide
/-- Forth and back. -/
theorem bwd_fwd (j : Fin 3) (c : Dev nD) : bwd j (fwd j c) = c := by revert j c; decide
/-- Forth and back, spelled with the reversed displacement. -/
theorem fwd_rev_fwd (j : Fin 3) (c : Dev nD) : fwd j.rev (fwd j c) = c := bwd_fwd j c

/-- The displacement as a permutation of the devices. -/
def turn (j : Fin 3) : Dev nD ≃ Dev nD := ⟨fwd j, bwd j, bwd_fwd j, fwd_bwd j⟩

/-! ## The buffers, the slots and the semaphores -/

/-- `x`'s columns as staged. -/
abbrev xM : Memref sig .tc .vmem S1024x256 .bf16 := Memref.whole cc0_stg0_0
/-- `w` as staged. -/
abbrev wM : Memref sig .tc .vmem S1024x1024 .bf16 := Memref.whole cc0_stg1_0
/-- The result's rows as staged. -/
abbrev oM : Memref sig .tc .vmem S256x1024 .f32 := Memref.whole cc0_stg2_0
/-- The three staging slots of the blocks sent. -/
abbrev stM : Memref sig .tc .vmem S3x256x256 .bf16 := Memref.whole cc0_scratch0
/-- The three landing slots of the blocks received. -/
abbrev cmM : Memref sig .tc .vmem S3x256x256 .bf16 := Memref.whole cc0_scratch1
/-- The working copy of `w`. -/
abbrev vM : Memref sig .tc .vmem S1024x1024 .bf16 := Memref.whole cc0_scratch2

/-- Slot `j` lies within a buffer of three slots. -/
theorem slot_inb (j : Fin 3) : ∀ a, (![j.val, 0, 0] : Fin 3 → Nat) a + S1x256x256.size a ≤ S3x256x256.size a := by
  revert j; decide
/-- The rectangle of slot `j`. -/
abbrev slotR (j : Fin 3) : Rect S3x256x256 := Rect.unit (s := S3x256x256) ![j.val, 0, 0] S1x256x256.size (slot_inb j)
/-- Slot `j` of a buffer of three slots, as a matrix. -/
abbrev slot (M : Memref sig .tc .vmem S3x256x256 .bf16) (j : Fin 3) : Memref sig .tc .vmem S256x256 .bf16 :=
  (M.slice (slotR j) (fun _ => rfl)).squeeze S256x256 squeezes_S1x256x256_S256x256

/-- One semaphore of an array of three lies within it. -/
theorem sem_inb (j : Fin 3) : ∀ a, (![j.val] : Fin 1 → Nat) a + S1.size a ≤ S3.size a := by revert j; decide
/-- Semaphore `j` of an array of three. -/
abbrev semOf (A : DmaSems sig S3) (j : Fin 3) : DmaSem sig :=
  ((A.slice (Rect.unit (s := S3) ![j.val] S1.size (sem_inb j))).squeeze S_ squeezes_S1_S_).sem

/-- The barrier semaphore. -/
abbrev barS : Sem sig := (SemArray.scalar (sig.barrier 0 rfl) : Sems sig S_).sem
/-- The send semaphore of slot `j`. -/
abbrev sendS (j : Fin 3) : DmaSem sig := semOf cc0_scratch3 j
/-- The receive semaphore of slot `j`. -/
abbrev recvS (j : Fin 3) : DmaSem sig := semOf cc0_scratch4 j

/-- The barrier cell of device `c`. -/
abbrev barCell (c : Dev nD) : GSem nD τ sig := ((c : Thread nD τ), .reg barS)
/-- The send cell of slot `j` of device `c`. -/
abbrev sendCell (j : Fin 3) (c : Dev nD) : GSem nD τ sig := ((c : Thread nD τ), .dma (sendS j))
/-- The receive cell of slot `j` of device `c`. -/
abbrev recvCell (j : Fin 3) (c : Dev nD) : GSem nD τ sig := ((c : Thread nD τ), .dma (recvS j))

/-- What a semaphore is for. -/
inductive Role where
  | bar | send (j : Fin 3) | recv (j : Fin 3) | other
  deriving DecidableEq

/-- Read off the semaphore's number. -/
def role : SemLoc sig → Role
  | .reg _ => .bar
  | .dma q => if h : 3 ≤ q.val ∧ q.val < 6 then .send ⟨q.val - 3, by omega⟩
      else if h : 6 ≤ q.val ∧ q.val < 9 then .recv ⟨q.val - 6, by omega⟩ else .other

/-- The barrier semaphore's role; -/
theorem role_bar : role (.reg barS) = .bar := rfl
/-- the send semaphores'; -/
theorem role_send (j : Fin 3) : role (.dma (sendS j)) = .send j := by revert j; decide
/-- the receive semaphores'. -/
theorem role_recv (j : Fin 3) : role (.dma (recvS j)) = .recv j := by revert j; decide

/-- The bytes' worth of credit a block's transfer raises its semaphores by. -/
abbrev N : ℕ := (slot cmM 0).view.dmaCredit
/-- It is positive. -/
theorem N_pos : 0 < N := View.dmaCredit_pos _ (by decide)
/-- It is the same for every slot of the landing buffer; -/
theorem credit_cm (j : Fin 3) : (slot cmM j).view.dmaCredit = N := rfl
/-- and of the staging buffer. -/
theorem credit_st (j : Fin 3) : (slot stM j).view.dmaCredit = N := rfl

/-! ## Contents -/

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- Device `c`'s columns of `x`, as its argument array holds them. -/
def xin (c : Dev nD) : (cc0_stg0_0 : Ref sig .tc).ty.Contents (Elt F) :=
  (win0_0.blk (0 : Fin 1)).view.read (Elt F) ((s₀ m ρ).mem ((c : Thread nD τ).loc main_arg0))
/-- Device `c`'s copy of `w`, as its argument array holds it. -/
def win (c : Dev nD) : (cc0_stg1_0 : Ref sig .tc).ty.Contents (Elt F) :=
  (win0_1.blk (0 : Fin 1)).view.read (Elt F) ((s₀ m ρ).mem ((c : Thread nD τ).loc main_arg1))

/-- Rows `[256 r, 256 r + 256)` lie within `x`'s columns; -/
theorem xrow_inb (r : Dev nD) : ∀ a, (![256 * r.val, 0] : Fin 2 → Nat) a + S256x256.size a ≤ S1024x256.size a := by
  revert r; decide +kernel
/-- and within `w`. -/
theorem wrow_inb (r : Dev nD) : ∀ a, (![256 * r.val, 0] : Fin 2 → Nat) a + S256x1024.size a ≤ S1024x1024.size a := by
  revert r; decide +kernel

/-- Rows `[256 r, 256 r + 256)` of a device's columns of `x`; -/
def xrow (X : (cc0_stg0_0 : Ref sig .tc).ty.Contents (Elt F)) (r : Dev nD) : Vec F S256x256 .bf16 :=
  (xM : Memref sig .tc .vmem S1024x256 .bf16).view.readAt (Elt F) (Rect.unit (s := S1024x256) ![256 * r.val, 0] S256x256.size (xrow_inb r)).toLoadRect X
/-- of `w`. -/
def wrow (W : (cc0_scratch2 : Ref sig .tc).ty.Contents (Elt F)) (r : Dev nD) : Vec F S256x1024 .bf16 :=
  (vM : Memref sig .tc .vmem S1024x1024 .bf16).view.readAt (Elt F) (Rect.unit (s := S1024x1024) ![256 * r.val, 0] S256x1024.size (wrow_inb r)).toLoadRect W

/-- The block that lands in slot `j` of device `c`: rows `c` of the columns held by the device `j + 1` places before. -/
def got (j : Fin 3) (c : Dev nD) : Vec F S256x256 .bf16 := xrow (xin m ρ (bwd j c)) c

/-- One more partial product onto the running sum. -/
def acc (o : Vec F S256x1024 .f32) (b : Vec F S256x256 .bf16) (v : Vec F S256x1024 .bf16) : Vec F S256x1024 .f32 :=
  addf o (matmul dot_S256x256_S256x1024_S256x1024_1_0_0_1_n_n none b v (constant S256x1024 .f32 0x00000000#32))

/-- The running sum after the device's own block: its rows of its own columns against its rows of `w`. -/
def sum0 (c : Dev nD) : Vec F S256x1024 .f32 := k0_pay5 (xrow (xin m ρ c) c) (wrow (win m ρ c) c)
/-- The running sum with the block of slot `j` added. -/
def addSlot (j : Fin 3) (c : Dev nD) (o : Vec F S256x1024 .f32) : Vec F S256x1024 .f32 :=
  acc o (got m ρ j c) (wrow (win m ρ c) (bwd j c))
/-- The kernel's result on device `c`: the own block, then the slots in the order `0, 2, 1`, then the maximum with zero. -/
def outAt (c : Dev nD) : (cc0_stg2_0 : Ref sig .tc).ty.Contents (Elt F) :=
  k0_pay9 (addSlot m ρ 1 c (addSlot m ρ 2 c (addSlot m ρ 0 c (sum0 m ρ c))))

/-! ## Slots held -/

/-- A slot held at some contents. -/
def slotAny (M : Memref sig .tc .vmem S3x256x256 .bf16) (j : Fin 3) (c : Dev nD) : sProp 𝕄 :=
  iprop(∃ f, (slot M j).view.loc (c : Thread nD τ) ↦[(slot M j).view.set]{fullShare} f)
/-- A slot holding the block `X`. -/
def slotHas (M : Memref sig .tc .vmem S3x256x256 .bf16) (j : Fin 3) (c : Dev nD) (X : Vec F S256x256 .bf16) : sProp 𝕄 :=
  owns (c : Thread nD τ) (slot M j) fullShare X

/-- A slot held may be put into a payload; -/
instance slotAny_storable (M : Memref sig .tc .vmem S3x256x256 .bf16) (j : Fin 3) (c : Dev nD) :
    BI.Storable (upEmb : UEmb _ 𝕄) (slotAny (F := F) M j c) := by unfold slotAny; infer_instance
/-- so may one held at named contents. -/
instance slotHas_storable (M : Memref sig .tc .vmem S3x256x256 .bf16) (j : Fin 3) (c : Dev nD) (X : Vec F S256x256 .bf16) :
    BI.Storable (upEmb : UEmb _ 𝕄) (slotHas (F := F) M j c X) := by unfold slotHas; infer_instance

omit [FloatOps F] in
/-- A slot that holds a block is held. -/
theorem slotHas_any (M : Memref sig .tc .vmem S3x256x256 .bf16) (j : Fin 3) (c : Dev nD) (X : Vec F S256x256 .bf16) :
    slotHas M j c X ⊢ (slotAny M j c : sProp 𝕄) := by
  unfold slotHas slotAny owns
  iintro ⟨%f, -, H⟩; iexists f; iexact H

omit [FloatOps F] in
/-- The slots are disjoint; -/
theorem slot_disjoint (i j : Fin 3) (h : i ≠ j) : Disjoint (slotR i).set (slotR j).set :=
  Ring.lead_disjoint (s := S3x256x256) (0 : Fin 3) 1 (fun j : Fin 3 => ![j.val, 0, 0]) S1x256x256.size slot_inb (fun b => (Nat.one_mul _).symm) rfl i j h
omit [FloatOps F] in
/-- and they cover the buffer. -/
theorem slot_cover : Finset.univ.biUnion (fun j : Fin 3 => (slotR j).set) = Finset.univ :=
  Ring.lead_cover (s := S3x256x256) (0 : Fin 3) 1 (fun j : Fin 3 => ![j.val, 0, 0]) S1x256x256.size slot_inb (fun b => (Nat.one_mul _).symm)
    (by decide) rfl (by decide) rfl

/-! ## The schedule -/

/-- What duty `i` of device `c`'s barrier hands `c`: landing slot `i` of `fwd i c`, whose receive cell is in its first round. -/
def barPay (i : Fin 3) (c : Dev nD) : sProp 𝕄 := iprop(slotAny cmM i (fwd i c) ∗ reached EX (recvCell i (fwd i c)) 0)

/-- The exchange's schedule: one round; a barrier cell has three duties of one unit, a send or receive cell one duty of a
    block's credit. -/
def sched : Rounds.Schedule (GSem nD τ sig) (Fin 3) 𝕄 where
  duties g r := if r = 0 ∧ g.1.2 = .tc then (match role g.2 with | .bar => Finset.univ | .send _ => {0} | .recv _ => {0} | .other => ∅) else ∅
  unitless _ := False
  amount g _ _ := match role g.2 with | .bar => 1 | _ => N
  payload g _ d := match role g.2 with
    | .bar => barPay d g.1.1
    | .send j => slotAny stM j g.1.1
    | .recv j => slotHas cmM j g.1.1 (got m ρ j g.1.1)
    | .other => iprop(emp)
  amount_pos g _ _ _ := by
    cases role g.2
    · exact Nat.one_pos
    all_goals exact N_pos

/-- Every payload of the schedule may be stored. -/
instance sched_storable (g : GSem nD τ sig) (r : ℕ) (d : Fin 3) :
    BI.Storable (upEmb : UEmb _ 𝕄) ((sched (F := F) m ρ).payload g r d) := by
  dsimp only [sched]
  cases role g.2
  · unfold barPay; infer_instance
  all_goals infer_instance

section Sched
variable (c : Dev nD) (j : Fin 3)

omit [FloatOps F] in
/-- The barrier's duties; -/
theorem duties_bar : (sched (F := F) m ρ).duties (barCell c) 0 = Finset.univ := by
  dsimp only [sched]; rw [if_pos ⟨rfl, rfl⟩, role_bar]
omit [FloatOps F] in
/-- a send cell's; -/
theorem duties_send : (sched (F := F) m ρ).duties (sendCell j c) 0 = {0} := by
  dsimp only [sched]; rw [if_pos ⟨rfl, rfl⟩, role_send]
omit [FloatOps F] in
/-- a receive cell's; -/
theorem duties_recv : (sched (F := F) m ρ).duties (recvCell j c) 0 = {0} := by
  dsimp only [sched]; rw [if_pos ⟨rfl, rfl⟩, role_recv]
omit [FloatOps F] in
/-- none after the first round. -/
theorem duties_later (g : GSem nD τ sig) : ∀ r, 1 ≤ r → (sched (F := F) m ρ).duties g r = ∅ :=
  fun r hr => if_neg fun h => by omega

omit [FloatOps F] in
/-- The amounts: one at a barrier; -/
theorem amount_bar (r : ℕ) (d : Fin 3) : (sched (F := F) m ρ).amount (barCell c) r d = 1 := by dsimp only [sched]; rw [role_bar]
omit [FloatOps F] in
/-- a block's credit at a send cell; -/
theorem amount_send (r : ℕ) (d : Fin 3) : (sched (F := F) m ρ).amount (sendCell j c) r d = N := by dsimp only [sched]; rw [role_send]
omit [FloatOps F] in
/-- and at a receive cell. -/
theorem amount_recv (r : ℕ) (d : Fin 3) : (sched (F := F) m ρ).amount (recvCell j c) r d = N := by dsimp only [sched]; rw [role_recv]

omit [FloatOps F] in
/-- A barrier's round brings three units; -/
theorem expect_bar : (sched (F := F) m ρ).expect (barCell c) 0 = 3 := by
  unfold Schedule.expect Schedule.amountOf
  rw [duties_bar, Finset.sum_congr rfl fun d _ => amount_bar m ρ c 0 d, Finset.sum_const, Finset.card_univ, Fintype.card_fin, smul_eq_mul]
omit [FloatOps F] in
/-- a send cell's one block's credit; -/
theorem expect_send : (sched (F := F) m ρ).expect (sendCell j c) 0 = N := by
  unfold Schedule.expect Schedule.amountOf; rw [duties_send, Finset.sum_singleton, amount_send]
omit [FloatOps F] in
/-- so does a receive cell's. -/
theorem expect_recv : (sched (F := F) m ρ).expect (recvCell j c) 0 = N := by
  unfold Schedule.expect Schedule.amountOf; rw [duties_recv, Finset.sum_singleton, amount_recv]

omit [FloatOps F] in
/-- The payloads: a barrier's; -/
theorem payload_bar (r : ℕ) (d : Fin 3) : (sched (F := F) m ρ).payload (barCell c) r d = barPay d c := by dsimp only [sched]; rw [role_bar]
omit [FloatOps F] in
/-- a send cell's; -/
theorem payload_send (r : ℕ) (d : Fin 3) : (sched (F := F) m ρ).payload (sendCell j c) r d = slotAny stM j c := by dsimp only [sched]; rw [role_send]
omit [FloatOps F] in
/-- a receive cell's. -/
theorem payload_recv (r : ℕ) (d : Fin 3) : (sched (F := F) m ρ).payload (recvCell j c) r d = slotHas cmM j c (got m ρ j c) := by
  dsimp only [sched]; rw [role_recv]

omit [FloatOps F] in
/-- What the whole round of a barrier brings: the three landing slots to write into; -/
theorem round_bar : bigSep ((sched (F := F) m ρ).duties (barCell c) 0 \ ∅) (fun d => (sched (F := F) m ρ).payload (barCell c) 0 d)
    = (bigSep Finset.univ fun i : Fin 3 => barPay i c : sProp 𝕄) := by
  rw [Finset.sdiff_empty, duties_bar]; exact bigSep_congr fun d _ => payload_bar m ρ c 0 d
omit [FloatOps F] in
/-- of a send cell: the staging slot back; -/
theorem round_send : bigSep ((sched (F := F) m ρ).duties (sendCell j c) 0 \ ∅) (fun d => (sched (F := F) m ρ).payload (sendCell j c) 0 d)
    = (slotAny stM j c : sProp 𝕄) := by
  rw [Finset.sdiff_empty, duties_send, bigSep_singleton, payload_send]
omit [FloatOps F] in
/-- of a receive cell: the landing slot with the block. -/
theorem round_recv : bigSep ((sched (F := F) m ρ).duties (recvCell j c) 0 \ ∅) (fun d => (sched (F := F) m ρ).payload (recvCell j c) 0 d)
    = (slotHas cmM j c (got m ρ j c) : sProp 𝕄) := by
  rw [Finset.sdiff_empty, duties_recv, bigSep_singleton, payload_recv]

end Sched

/-! ## What each core owes; the levels -/

/-- The credit device `c` owes by its transfer in slot `j`; -/
abbrev recvDue (j : Fin 3) (c : Dev nD) : CellTallies nD τ sig Unit := tallyAt (recvCell j (fwd j c)) () N
/-- the unit it owes the barrier of the device `j + 1` places after it. -/
abbrev barDue (j : Fin 3) (c : Dev nD) : CellTallies nD τ sig Unit := tallyAt (barCell (fwd j c)) () 1

/-- Owed after the barrier: the three transfers, the first one last in the sum; -/
def owedR (c : Dev nD) : CellTallies nD τ sig Unit := recvDue 2 c + recvDue 1 c + recvDue 0 c
/-- owed at launch: the three signals besides. -/
def owed₀ (c : Dev nD) : CellTallies nD τ sig Unit := owedR c + barDue 2 c + barDue 1 c + barDue 0 c

/-- The cells that are assigned a level: the TensorCores'. -/
def L (g : GSem nD τ sig) : Finset Unit := if g.1.2 = .tc then {()} else ∅
/-- Barriers at level 1, receive cells at 2, all else at 0. -/
def lv (g : GSem nD τ sig) (_ : Unit) : ℕ := match role g.2 with | .bar => 1 | .recv _ => 2 | _ => 0

/-- No level elsewhere. -/
theorem L_of_ne (g : GSem nD τ sig) (h : g.1.2 ≠ .tc) : L g = ∅ := if_neg h
/-- A TensorCore's cell has one. -/
theorem mem_L {g : GSem nD τ sig} (h : g.1.2 = .tc) (u : Unit) : u ∈ L g := by
  unfold L; rw [if_pos h]; exact Finset.mem_singleton_self _

/-- All that `O` owes lies on TensorCore cells above level `n`. -/
def Above (n : ℕ) (O : CellTallies nD τ sig Unit) : Prop := ∀ g u, 0 < O g u → g.1.2 = .tc ∧ n < lv g u

/-- Owing nothing; -/
theorem Above.zero (n : ℕ) : Above n 0 := fun g u h => absurd h (Nat.lt_irrefl 0)
/-- owing more; -/
theorem Above.add {n : ℕ} {O O' : CellTallies nD τ sig Unit} (h : Above n O) (h' : Above n O') : Above n (O + O') := fun g u hp => by
  rw [Pi.add_apply, Finsupp.add_apply] at hp
  rcases Nat.add_pos_iff_pos_or_pos.mp hp with hp | hp
  exacts [h g u hp, h' g u hp]
/-- owing one cell. -/
theorem Above.tally {n k : ℕ} {g : GSem nD τ sig} (hg : g.1.2 = .tc) (hn : n < lv g ()) : Above n (tallyAt g () k) := fun g' u hp => by
  obtain ⟨rfl, rfl⟩ := Pipeline.tallyAt_pos hp
  exact ⟨hg, hn⟩

/-- A receive cell's level; -/
theorem lv_recv (j : Fin 3) (c : Dev nD) : lv (recvCell j c) () = 2 := by unfold lv; rw [role_recv]
/-- a barrier's. -/
theorem lv_bar (c : Dev nD) : lv (barCell c) () = 1 := by unfold lv; rw [role_bar]

/-- The transfers' credit lies above the barriers; -/
theorem above_owedR (c : Dev nD) : Above 1 (owedR c) := by
  have h (j : Fin 3) : Above 1 (recvDue j c) := Above.tally rfl (by rw [lv_recv]; decide)
  exact ((h 2).add (h 1)).add (h 0)
/-- all that is owed at launch lies above level 0. -/
theorem above_owed₀ (c : Dev nD) : Above 0 (owed₀ c) := by
  have h (j : Fin 3) : Above 0 (barDue j c) := Above.tally rfl (by rw [lv_bar]; decide)
  have hR : Above 0 (owedR c) := fun g u hp => ⟨(above_owedR c g u hp).1, Nat.lt_of_succ_lt (above_owedR c g u hp).2⟩
  exact ((hR.add (h 2)).add (h 1)).add (h 0)

omit [FloatOps F] in
/-- A device may wait on a cell of its own that no owed cell lies at or below. -/
theorem mayWait (c : Dev nD) (sm : SemLoc sig) {n : ℕ} (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n
    (fun p hp => by rw [Finset.mem_singleton.mp hp]; exact mem_L rfl _)
    (fun g u hg => mem_L (hO g u hg).1 u)
    (fun p hp => by rw [Finset.mem_singleton.mp hp]; exact hn)
    (fun g u hg => (hO g u hg).2)

end Cert.Exchange

end
-- ==== Proof.Steps.lean ====
/-
# The steps of one device's run

What a device knows and holds of the exchange, and one lemma per kind of step, for every displacement `j` at once:
raise another device's barrier, wait at one's own, send a block, receive a block and add its product, take a
staging slot back.
-/
module

public import proofs.«01_k».proof.Proof.Protocol

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## All the cells -/

/-- A device's semaphores: the barrier, the send semaphores, the receive semaphores. -/
abbrev CellIx : Type := Unit ⊕ (Fin 3 ⊕ Fin 3)
/-- The semaphore so named. -/
def semAt : CellIx → SemLoc sig
  | .inl _ => .reg barS
  | .inr (.inl j) => .dma (sendS j)
  | .inr (.inr j) => .dma (recvS j)
/-- Different names, different semaphores. -/
theorem semAt_inj : Function.Injective semAt := by
  have h : ∀ x y : CellIx, role (semAt x) = role (semAt y) → x = y := by
    rintro (_ | _ | _) (_ | _ | _) h <;> simp only [semAt, role_bar, role_send, role_recv] at h <;> cases h <;> rfl
  exact fun x y e => h x y (congrArg role e)
/-- The cell so named on a device. -/
def cellAt : Dev nD × CellIx ↪ GSem nD τ sig :=
  ⟨fun p => ((p.1 : Thread nD τ), semAt p.2), fun p q h => Prod.ext (congrArg (fun g : GSem nD τ sig => g.1.1) h) (semAt_inj (congrArg (fun g : GSem nD τ sig => g.2) h))⟩
/-- Every cell of the exchange. -/
def cells : Finset (GSem nD τ sig) := Finset.univ.map cellAt

/-- The barriers are among them; -/
theorem bar_mem (c : Dev nD) : barCell c ∈ cells := Finset.mem_map_of_mem cellAt (Finset.mem_univ (c, (.inl () : CellIx)))
/-- the send cells; -/
theorem send_mem (j : Fin 3) (c : Dev nD) : sendCell j c ∈ cells := Finset.mem_map_of_mem cellAt (Finset.mem_univ (c, (.inr (.inl j) : CellIx)))
/-- the receive cells. -/
theorem recv_mem (j : Fin 3) (c : Dev nD) : recvCell j c ∈ cells := Finset.mem_map_of_mem cellAt (Finset.mem_univ (c, (.inr (.inr j) : CellIx)))

/-- What every device knows: each cell follows the schedule, and its first round has been reached. -/
def know (K : GSem nD τ sig → ℕ) : sProp 𝕄 :=
  iprop((bigSep cells fun g => cellInv EX (sched m ρ) (K g) g) ∗ bigSep cells fun g => reached EX g 0)

/-- What is known is never used up. -/
instance know_persistent (K : GSem nD τ sig → ℕ) : BI.Persistent (know (F := F) m ρ K) := by
  unfold know; infer_instance

omit [FloatOps F] in
/-- A cell follows the schedule. -/
theorem know_inv (K : GSem nD τ sig → ℕ) {g : GSem nD τ sig} (h : g ∈ cells) : know (F := F) m ρ K ⊢ cellInv EX (sched m ρ) (K g) g :=
  sep_elim_left.trans (bigSep_elim h)
omit [FloatOps F] in
/-- A cell has reached its first round. -/
theorem know_reached (K : GSem nD τ sig → ℕ) {g : GSem nD τ sig} (h : g ∈ cells) : know (F := F) m ρ K ⊢ reached EX g 0 :=
  sep_elim_right.trans (bigSep_elim h)

/-! ## Reads and writes of slots and of whole buffers -/

omit [FloatOps F] in
/-- The all-zero offset. -/
theorem zero2 : (![0, 0] : Fin 2 → Nat) = fun _ => 0 := funext fun a => by fin_cases a <;> rfl

omit [FloatOps F] in
/-- A slot's elements are those of its rectangle in the buffer. -/
theorem slot_set (M : Memref sig .tc .vmem S3x256x256 .bf16) (j : Fin 3) : (M.access (slotR j)).set = (slot M j).view.set :=
  (View.set_reshape _ _).symm

omit [FloatOps F] in
/-- A block read back through its slot is the block stored, the unit axis dropped. -/
theorem slot_read (M : Memref sig .tc .vmem S3x256x256 .bf16) (j : Fin 3) (f : M.view.ty.Contents (Elt F)) :
    (slot M j).view.read (Elt F) f = shapeCast S256x256 ((M.access (slotR j)).read (Elt F) f) shapeCasts_S1x256x256_S256x256 := rfl

/-- The weak-precondition of a device's program. -/
abbrev wpX (c : Dev nD) {α : Type} (p : Prog (TpuEff nD τ sig (Elt F) Λ₀ .tc) α) (Q : α → sProp 𝕄) : sProp 𝕄 :=
  wp frame (wpE (defs₀ (F := F)) (Variants.none) (c : Thread nD τ) none) Set.univ p Q

section Steps

variable (K : GSem nD τ sig → ℕ) (c : Dev nD) {α : Type}

/-- RAISE a barrier: the unit for `fwd j c`, with the device's own landing slot for it. -/
theorem wp_ready (j : Fin 3) (n : Dev nD) (hn : n = fwd j c) {O₀ : CellTallies nD τ sig Unit} (O : CellTallies nD τ sig Unit) (hO : O₀ = O + barDue j c)
    {W : Waits sig Unit} {k : PUnit → Prog (TpuEff nD τ sig (Elt F) Λ₀ .tc) α} {Q : α → sProp 𝕄} :
    iprop(know m ρ K ∗ owes (c : Thread nD τ) O₀ W ∗ dutyTok EX (barCell (fwd j c)) 0 j.rev ∗ slotAny cmM j.rev c)
      ⊢ iprop((owes (c : Thread nD τ) O W -∗ wpX c (k ⟨⟩) Q) -∗ wpX c (.op (.semSignal (n : Thread nD τ) barS 1) k) Q) := by
  subst hn
  iintro ⟨#Hkn, HO, Ht, Hs⟩ Hk
  iapply (Rounds.wp_signal Variants.none EX (sched m ρ) (c : Thread nD τ) none (dst := (fwd j c : Thread nD τ)) (κ := K (barCell (fwd j c)))
      (d := j.rev) (by rw [duties_bar]; exact Finset.mem_univ _) (amount_bar m ρ (fwd j c) 0 j.rev) () O hO) $$ [HO Ht Hs]
  · isplitr; · iapply (know_inv m ρ K (bar_mem (fwd j c))); iexact Hkn
    isplitl [HO]; · iexact HO
    isplitl [Ht]; · iexact Ht
    isplitl [Hs]
    · rw [payload_bar]; unfold barPay; rw [fwd_rev_fwd]
      isplitl [Hs]; · iexact Hs
      iapply (know_reached m ρ K (recv_mem j.rev c)); iexact Hkn
    iapply (know_reached m ρ K (bar_mem (fwd j c))); iexact Hkn
  iexact Hk

/-- WAIT at one's own barrier: the three landing slots to write into. -/
theorem wp_gather {W : Waits sig Unit} {k : PUnit → Prog (TpuEff nD τ sig (Elt F) Λ₀ .tc) α} {Q : α → sProp 𝕄} :
    iprop(know m ρ K ∗ levAts L lv ∗ cred (tallyAt (barCell c) () 3) ∗ owes (c : Thread nD τ) (owedR c) W ∗ atPos EX (barCell c) 0 ∅ 0)
      ⊢ iprop(((owes (c : Thread nD τ) (owedR c) (insert (SemLoc.reg barS, ()) W) ∗ atPos EX (barCell c) (0 + 1) ∅ 0
            ∗ bigSep Finset.univ fun i : Fin 3 => slotAny cmM i (fwd i c)) -∗ wpX c (k ⟨⟩) Q)
          -∗ wpX c (.op (.semWait barS 3) k) Q) := by
  iintro ⟨#Hkn, #Hlev, Hc, HO, Hat⟩ Hk
  iapply (Rounds.wp_wait_rest_token Variants.none EX (sched m ρ) (c : Thread nD τ) none (κ := K (barCell c))
      (wpE_semWait_eq Variants.none (c : Thread nD τ) none Set.univ) (Set.mem_univ _) () (O := owedR c) (W := W) (R := 0) (m := 0) (T := ∅)
      (by rw [expect_bar])) $$ [Hc HO Hat]
  · isplitr; · iapply (know_inv m ρ K (bar_mem c)); iexact Hkn
    isplitl [Hc]; · iexact Hc
    isplitl [HO]; · iexact HO
    isplitr; · iapply (mayWait c (.reg barS) (le_of_eq (lv_bar c)) (above_owedR c)); iexact Hlev
    iexact Hat
  iintro ⟨HO, Hat, -, Hpay⟩
  iapply Hk
  isplitl [HO]; · iexact HO
  isplitl [Hat]; · iexact Hat
  ihave Hp := (Entails.of_eq (round_bar m ρ c)) $$ Hpay
  have hs : ∀ i ∈ (Finset.univ : Finset (Fin 3)), barPay i c ⊢ (slotAny cmM i (fwd i c) : sProp 𝕄) :=
    fun i _ => by unfold barPay; exact sep_elim_left
  iapply (show (bigSep Finset.univ fun i : Fin 3 => (barPay i c : sProp 𝕄)) ⊢ bigSep Finset.univ fun i : Fin 3 => slotAny cmM i (fwd i c) from bigSep_mono hs) $$ Hp

/-- SEND block `j`: the rows the other device needs are read off `x`, put into staging slot `j`, and the transfer into landing slot `j` of
    `fwd j c` is issued. The transfer's landing pays the receive cell there, its departure the device's own send cell. -/
theorem wp_push (j : Fin 3) (n : Dev nD) (hn : n = fwd j c) {off : Fin 2 → Nat} (hoff : off = ![256 * (fwd j c).val, 0])
    (hin : ∀ a, off a + S256x256.size a ≤ S1024x256.size a) (pay : Vec F S256x256 .bf16 → Vec F S1x256x256 .bf16)
    (hpay : ∀ v, shapeCast S256x256 (pay v) shapeCasts_S1x256x256_S256x256 = v)
    {O₀ : CellTallies nD τ sig Unit} (O : CellTallies nD τ sig Unit) (hO : O₀ = O + recvDue j c)
    {W : Waits sig Unit} {k : PUnit → Prog (TpuEff nD τ sig (Elt F) Λ₀ .tc) α} {Q : α → sProp 𝕄}
    {hl : (xM : Memref sig .tc .vmem S1024x256 .bf16).view.LoadsAt (Rect.unit (s := S1024x256) off S256x256.size hin).toLoadRect}
    {hl' : (stM : Memref sig .tc .vmem S3x256x256 .bf16).view.LoadsAt (slotR j).toLoadRect}
    {hx : (stM.access (slotR j)).Stores Finset.univ} {hm : (Finset.univ : Finset (slotR j).shape.Idx) = Finset.univ ∨ ∀ a, (slotR j).stride a = 1}
    {hsc : (slot cmM j : Memref sig (Dev.tc n : Thread nD τ).2.kind .vmem S256x256 .bf16).view.ref.isScScratch = false}
    {hsrc : (slot stM j).view.WordExact} {hdst : (slot cmM j).view.WordExact}
    {hsem : DmaTarget.Typed .vmem (.dma (recvS j)) (.remote (Dev.tc n : Thread nD τ) (slot cmM j) (.dma (sendS j)) hsc)} :
    iprop(know m ρ K ∗ ((c : Thread nD τ).loc cc0_stg0_0 ↦{fullShare} xin m ρ c) ∗ slotAny stM j c ∗ slotAny cmM j (fwd j c)
        ∗ owes (c : Thread nD τ) O₀ W ∗ dutyTok EX (sendCell j c) 0 0 ∗ dutyTok EX (recvCell j (fwd j c)) 0 0)
      ⊢ iprop(((((c : Thread nD τ).loc cc0_stg0_0 ↦{fullShare} xin m ρ c) ∗ cred (tallyAt (sendCell j c) () N) ∗ owes (c : Thread nD τ) O W) -∗ wpX c (k ⟨⟩) Q)
          -∗ wpX c (.op (.load xM (Rect.unit (s := S1024x256) off S256x256.size hin).toLoadRect hl) fun v =>
              .op (.load stM (slotR j).toLoadRect hl') fun _ =>
              .op (.store stM (slotR j) (pay v) Finset.univ hx hm) fun _ =>
              .op (.enqueueDma (slot stM j) (.remote (Dev.tc n : Thread nD τ) (slot cmM j) (.dma (sendS j)) hsc) (.dma (recvS j)) hsrc hdst hsem) k) Q) := by
  subst hn hoff
  iintro ⟨#Hkn, Hx, Hst, Hcm, HO, HtS, HtR⟩ Hk
  unfold slotAny
  icases Hst with ⟨%fs, Hst⟩
  icases Hcm with ⟨%fd, Hcm⟩
  iapply (wp_load Variants.none (c : Thread nD τ) none Set.univ (m := xM) (Finset.subset_univ _)) $$ Hx; iintro Hx
  iapply (wp_load_rect Variants.none (c : Thread nD τ) none Set.univ (m := stM) (r := slotR j) (S := (slot stM j).view.set) (subset_of_eq (slot_set stM j))) $$ Hst; iintro Hst
  iapply (wp_store Variants.none (c : Thread nD τ) none Set.univ (m := stM) (r := slotR j) (Mk := Finset.univ) (S := (slot stM j).view.set) (subset_of_eq (slot_set stM j))) $$ Hst; iintro Hst
  iapply (Rounds.wp_send_pointsTo Variants.none EX (sched m ρ) (c : Thread nD τ) none (κ₁ := K (sendCell j c)) (κ₂ := K (recvCell j (fwd j c)))
      (c' := (fwd j c : Thread nD τ)) (src := slot stM j) (dst := slot cmM j)
      (r₁ := 0) (r₂ := 0) (d₁ := 0) (d₂ := 0) (q := fullShare) (fd := fd)
      (fs := (stM.access (slotR j)).write (Elt F) fs (pay (xrow (xin m ρ c) (fwd j c))) Finset.univ)
      (by rw [duties_send]; exact Finset.mem_singleton_self _) (by rw [duties_recv]; exact Finset.mem_singleton_self _)
      () () N rfl (amount_send m ρ c j 0 0) (amount_recv m ρ (fwd j c) j 0 0) O hO (W := W)
      (by rw [payload_send]; unfold slotAny; exact exists_intro _)
      (by
        rw [payload_recv]; unfold slotHas owns
        iintro H
        iexists ((slot cmM j).view.write (Elt F) fd ((slot stM j).view.read (Elt F)
          ((stM.access (slotR j)).write (Elt F) fs (pay (xrow (xin m ρ c) (fwd j c))) Finset.univ)) Finset.univ)
        isplitr
        · ipureintro; rw [View.read_write_univ, slot_read, View.read_write_univ, hpay, got, bwd_fwd]
        · iexact H))
    $$ [Hst Hcm HO HtS HtR]
  · isplitr; · iapply (know_inv m ρ K (send_mem j c)); iexact Hkn
    isplitr; · iapply (know_inv m ρ K (recv_mem j (fwd j c))); iexact Hkn
    isplitl [Hst]; · iexact Hst
    isplitl [Hcm]; · iexact Hcm
    isplitl [HO]; · iexact HO
    isplitl [HtS]; · iexact HtS
    isplitr; · iapply (know_reached m ρ K (send_mem j c)); iexact Hkn
    isplitl [HtR]; · iexact HtR
    iapply (know_reached m ρ K (recv_mem j (fwd j c))); iexact Hkn
  iintro ⟨Hc, HO⟩
  iapply Hk
  isplitl [Hx]; · iexact Hx
  isplitl [Hc] <;> iassumption

/-- The result's whole buffer as a rectangle. -/
abbrev oR : Rect S256x1024 := Rect.unit (s := S256x1024) ![0, 0] S256x1024.size inb_S256x1024_S256x1024_0_0

omit [FloatOps F] in
/-- The result read whole; -/
theorem read_o (f : (cc0_stg2_0 : Ref sig .tc).ty.Contents (Elt F)) : (oM : Memref sig .tc .vmem S256x1024 .f32).view.readAt (Elt F) oR.toLoadRect f = f :=
  Memref.readAt_unit_zero (Elt F) cc0_stg2_0 zero2 _ f
omit [FloatOps F] in
/-- written whole. -/
theorem write_o (f w : (cc0_stg2_0 : Ref sig .tc).ty.Contents (Elt F)) :
    ((oM : Memref sig .tc .vmem S256x1024 .f32).access oR : View sig .tc _ _ _).write (Elt F) f w Finset.univ = w :=
  Memref.write_access_unit_zero_univ (Elt F) cc0_stg2_0 zero2 _ f w

/-- RECEIVE block `j`: once it has landed, its product with the rows of `w` that belong to its sender is added to the running sum. -/
theorem wp_pull (j : Fin 3) {off : Fin 2 → Nat} (hoff : off = ![256 * (bwd j c).val, 0])
    (hin : ∀ a, off a + S256x1024.size a ≤ S1024x1024.size a) (pay : Vec F S256x1024 .f32 → Vec F S1x256x256 .bf16 → Vec F S256x1024 .bf16 → Vec F S256x1024 .f32)
    (hpay : ∀ o b v, pay o b v = acc o (shapeCast S256x256 b shapeCasts_S1x256x256_S256x256) v)
    (o : Vec F S256x1024 .f32)
    {W : Waits sig Unit} {k : PUnit → Prog (TpuEff nD τ sig (Elt F) Λ₀ .tc) α} {Q : α → sProp 𝕄}
    {hs : (slot stM j).view.WordExact} {hd : (slot cmM j).view.WordExact}
    {hl hl₂ : (oM : Memref sig .tc .vmem S256x1024 .f32).view.LoadsAt oR.toLoadRect}
    {hl' : (cmM : Memref sig .tc .vmem S3x256x256 .bf16).view.LoadsAt (slotR j).toLoadRect}
    {hl'' : (vM : Memref sig .tc .vmem S1024x1024 .bf16).view.LoadsAt (Rect.unit (s := S1024x1024) off S256x1024.size hin).toLoadRect}
    {hx : (oM.access oR).Stores Finset.univ} {hm : (Finset.univ : Finset oR.shape.Idx) = Finset.univ ∨ ∀ a, oR.stride a = 1} :
    iprop(know m ρ K ∗ ((c : Thread nD τ).loc cc0_scratch2 ↦{fullShare} win m ρ c) ∗ ((c : Thread nD τ).loc cc0_stg2_0 ↦{fullShare} o)
        ∗ cred (tallyAt (recvCell j c) () N) ∗ owes (c : Thread nD τ) 0 W ∗ atPos EX (recvCell j c) 0 ∅ 0)
      ⊢ iprop(((((c : Thread nD τ).loc cc0_scratch2 ↦{fullShare} win m ρ c) ∗ ((c : Thread nD τ).loc cc0_stg2_0 ↦{fullShare} addSlot m ρ j c o)
              ∗ slotAny cmM j c ∗ owes (c : Thread nD τ) 0 (insert (SemLoc.dma (recvS j), ()) W) ∗ atPos EX (recvCell j c) (0 + 1) ∅ 0) -∗ wpX c (k ⟨⟩) Q)
          -∗ wpX c (.op (.waitDma2 (recvS j) (slot stM j) (slot cmM j) hs hd) fun _ =>
              .op (.load oM oR.toLoadRect hl) fun a =>
              .op (.load cmM (slotR j).toLoadRect hl') fun b =>
              .op (.load vM (Rect.unit (s := S1024x1024) off S256x1024.size hin).toLoadRect hl'') fun v =>
              .op (.load oM oR.toLoadRect hl₂) fun _ =>
              .op (.store oM oR (pay a b v) Finset.univ hx hm) k) Q) := by
  subst hoff
  iintro ⟨#Hkn, Hv, Ho, Hc, HO, Hat⟩ Hk
  iapply (Rounds.wp_wait_rest_token Variants.none EX (sched m ρ) (c : Thread nD τ) none (κ := K (recvCell j c))
      (wpE_waitDma2_eq Variants.none (c : Thread nD τ) none Set.univ) (Set.mem_univ _) () (O := 0) (W := W) (R := 0) (m := 0) (T := ∅)
      (by rw [Nat.zero_add, expect_recv])) $$ [Hc HO Hat]
  · isplitr; · iapply (know_inv m ρ K (recv_mem j c)); iexact Hkn
    isplitl [Hc]; · iexact Hc
    isplitl [HO]; · iexact HO
    isplitr; · rw [MayWait_zero]; iempintro
    iexact Hat
  iintro ⟨HO, Hat, -, Hpay⟩
  ihave Hcm := (Entails.of_eq (round_recv m ρ c j)) $$ Hpay
  unfold slotHas owns
  icases Hcm with ⟨%f, %hf, Hcm⟩
  iapply (wp_load Variants.none (c : Thread nD τ) none Set.univ (m := oM) (Finset.subset_univ _)) $$ Ho; iintro Ho
  iapply (wp_load_rect Variants.none (c : Thread nD τ) none Set.univ (m := cmM) (r := slotR j) (S := (slot cmM j).view.set) (subset_of_eq (slot_set cmM j))) $$ Hcm; iintro Hcm
  iapply (wp_load Variants.none (c : Thread nD τ) none Set.univ (m := vM) (Finset.subset_univ _)) $$ Hv; iintro Hv
  iapply (wp_load Variants.none (c : Thread nD τ) none Set.univ (m := oM) (Finset.subset_univ _)) $$ Ho; iintro Ho
  iapply (wp_store Variants.none (c : Thread nD τ) none Set.univ (m := oM) (r := oR) (Mk := Finset.univ) (Finset.subset_univ _)) $$ Ho; iintro Ho
  rw [write_o, read_o, hpay, ← slot_read, hf]
  iapply Hk
  isplitl [Hv]; · iexact Hv
  isplitl [Ho]; · iexact Ho
  isplitl [Hcm]; · unfold slotAny; iexists f; iexact Hcm
  isplitl [HO] <;> iassumption

/-- TAKE staging slot `j` back, once its block has left. -/
theorem wp_drain (j : Fin 3) {W : Waits sig Unit} {k : PUnit → Prog (TpuEff nD τ sig (Elt F) Λ₀ .tc) α} {Q : α → sProp 𝕄}
    {hs : (slot cmM j).view.WordExact} {hd : (slot stM j).view.WordExact} :
    iprop(know m ρ K ∗ cred (tallyAt (sendCell j c) () N) ∗ owes (c : Thread nD τ) 0 W ∗ atPos EX (sendCell j c) 0 ∅ 0)
      ⊢ iprop(((slotAny stM j c ∗ owes (c : Thread nD τ) 0 (insert (SemLoc.dma (sendS j), ()) W) ∗ atPos EX (sendCell j c) (0 + 1) ∅ 0) -∗ wpX c (k ⟨⟩) Q)
          -∗ wpX c (.op (.waitDma2 (sendS j) (slot cmM j) (slot stM j) hs hd) k) Q) := by
  iintro ⟨#Hkn, Hc, HO, Hat⟩ Hk
  iapply (Rounds.wp_wait_rest_token Variants.none EX (sched m ρ) (c : Thread nD τ) none (κ := K (sendCell j c))
      (wpE_waitDma2_eq Variants.none (c : Thread nD τ) none Set.univ) (Set.mem_univ _) () (O := 0) (W := W) (R := 0) (m := 0) (T := ∅)
      (by rw [Nat.zero_add, expect_send])) $$ [Hc HO Hat]
  · isplitr; · iapply (know_inv m ρ K (send_mem j c)); iexact Hkn
    isplitl [Hc]; · iexact Hc
    isplitl [HO]; · iexact HO
    isplitr; · rw [MayWait_zero]; iempintro
    iexact Hat
  iintro ⟨HO, Hat, -, Hpay⟩
  iapply Hk
  isplitl [Hpay]; · iapply (Entails.of_eq (round_send m ρ c j)); iexact Hpay
  isplitl [HO] <;> iassumption

/-- A cell of the device's own that is past its round closes: its counter at zero is the device's again. -/
theorem close (k : CellIx) {E : Set ℕ} (hE : K (cellAt (c, k)) ∈ E) :
    iprop(know m ρ K ∗ atPos EX (cellAt (c, k)) (0 + 1) ∅ 0) ⊢ fupd frame E E (semVal (cellAt (c, k)) 0 : sProp 𝕄) := by
  iintro ⟨#Hkn, Hat⟩
  iapply (Rounds.cell_close EX (sched m ρ) hE (fun h => h) (R := 0 + 1) (duties_later m ρ (cellAt (c, k))))
  isplitr; · iapply (know_inv m ρ K (Finset.mem_map_of_mem cellAt (Finset.mem_univ (c, k)))); iexact Hkn
  iexact Hat

end Steps

end Cert.Exchange

end
-- ==== Proof.Body.lean ====
/-
# One device's run, from its start to its end

The proof data of the kernel's one point, and the run of the body from the device's share of the exchange to its result:
the steps of `Steps.lean` in program order.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's device ids and offsets in closed form -/

/-- The target of the first raise is the next device. -/
theorem dev1_eq (c : Dev nD) : (⟨k0_dev1 c, k0_dev1_lt c⟩ : Dev nD) = fwd 0 c := by revert c; decide +kernel
/-- The target of the second raise is the device two places on. -/
theorem dev2_eq (c : Dev nD) : (⟨k0_dev2 c, k0_dev2_lt c⟩ : Dev nD) = fwd 1 c := by revert c; decide +kernel
/-- The target of the third raise is the device three places on. -/
theorem dev3_eq (c : Dev nD) : (⟨k0_dev3 c, k0_dev3_lt c⟩ : Dev nD) = fwd 2 c := by revert c; decide +kernel
/-- The target of the first transfer is the next device. -/
theorem dev4_eq (c : Dev nD) : (⟨k0_dev4 c, k0_dev4_lt c⟩ : Dev nD) = fwd 0 c := by revert c; decide +kernel
/-- The target of the second transfer is the device two places on. -/
theorem dev5_eq (c : Dev nD) : (⟨k0_dev5 c, k0_dev5_lt c⟩ : Dev nD) = fwd 1 c := by revert c; decide +kernel
/-- The target of the third transfer is the device three places on. -/
theorem dev6_eq (c : Dev nD) : (⟨k0_dev6 c, k0_dev6_lt c⟩ : Dev nD) = fwd 2 c := by revert c; decide +kernel
/-- The rows of `x` that are sent; -/
theorem off1_eq (c : Dev nD) (j : Fin 3) : k0_off1 c (BitVec.ofNat 32 (1 + j.val)) = ![256 * (fwd j c).val, 0] := by revert c j; decide +kernel
/-- the rows of `w` that belong to a block received. -/
theorem off4_eq (c : Dev nD) (j : Fin 3) : k0_off4 c (BitVec.ofNat 32 (1 + j.val)) = ![256 * (bwd j c).val, 0] := by revert c j; decide +kernel

/-! ## The device's start and end -/

/-- Its positions: round 0 of each of its cells. -/
def poss (c : Dev nD) : sProp 𝕄 := bigSep Finset.univ fun k : CellIx => atPos EX (cellAt (c, k)) 0 ∅ 0
/-- The duties it pays for displacement `j`: a unit on the barrier of `fwd j c`, its own send cell's credit, the receive credit of `fwd j c`. -/
def toksFor (j : Fin 3) (c : Dev nD) : sProp 𝕄 :=
  iprop(dutyTok EX (barCell (fwd j c)) 0 j.rev ∗ dutyTok EX (sendCell j c) 0 0 ∗ dutyTok EX (recvCell j (fwd j c)) 0 0)
/-- The credit it may wait for: three units at its barrier, a block's credit at each receive cell. -/
def creds (c : Dev nD) : sProp 𝕄 :=
  iprop(cred (tallyAt (barCell c) () 3) ∗ bigSep Finset.univ fun j : Fin 3 => cred (tallyAt (recvCell j c) () N))
/-- What a device starts from, under the cells' names `K`. -/
def startAt (K : GSem nD τ sig → ℕ) (c : Dev nD) : sProp 𝕄 :=
  iprop(know m ρ K ∗ poss c ∗ (bigSep Finset.univ fun j : Fin 3 => toksFor j c) ∗ creds c ∗ levAts L lv)
/-- That under some names. -/
def start (c : Dev nD) : sProp 𝕄 := iprop(∃ K, startAt m ρ K c)

/-- The three scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- Its semaphores at zero. -/
def counters (c : Dev nD) : sProp 𝕄 := bigSep Finset.univ fun k : CellIx => semVal (cellAt (c, k)) 0

/-- Before the body: its share of the exchange and its scratch. -/
def Φ₀ (c : Dev nD) : sProp 𝕄 := iprop(start m ρ c ∗ scratch c)
/-- After the body: its scratch, its semaphores closed at zero. -/
def Φ₁ (c : Dev nD) : sProp 𝕄 := iprop(scratch c ∗ counters c)

/-- The proof data of the kernel's point: the arrays as they are at launch; the inputs staged unchanged, the result staged at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => win m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owed₀ c
    | ⟨_ + 1, _⟩ => 0

/-! ## Slots and buffers -/

section Slots

variable (M : Memref sig .tc .vmem S3x256x256 .bf16)

/-- The slots of `M` partition its buffer. -/
def Sliced : Prop :=
  (∀ i j : Fin 3, i ≠ j → Disjoint (slot M i).view.set (slot M j).view.set) ∧ Finset.biUnion (β := M.view.ty.Idx) Finset.univ (fun j : Fin 3 => (slot M j).view.set) = Finset.univ

/-- The staging buffer's do; -/
theorem sliced_st : Sliced stM := by
  unfold Sliced; simp only [View.set_reshape, View.set_slice_whole]
  exact ⟨slot_disjoint, slot_cover⟩
/-- so do the landing buffer's. -/
theorem sliced_cm : Sliced cmM := by
  unfold Sliced; simp only [View.set_reshape, View.set_slice_whole]
  exact ⟨slot_disjoint, slot_cover⟩

variable {M}

omit [FloatOps F] in
/-- The buffer at any contents is its three slots at any contents; -/
theorem slots_split (h : Sliced M) (c : Dev nD) :
    iprop(∃ f : Buf (Elt F) (M.view.loc (c : Thread nD τ)), M.view.loc (c : Thread nD τ) ↦{fullShare} f)
      ⊢ (iprop(slotAny M 0 c ∗ slotAny M 1 c ∗ slotAny M 2 c) : sProp 𝕄) := by
  unfold slotAny
  exact Ring.slots3_split (ℓ := M.view.loc (c : Thread nD τ)) (fun j => (slot M j).view.set) h.1 h.2 _ _ _ (fun _ => rfl) (fun _ => rfl) (fun _ => rfl)

omit [FloatOps F] in
/-- and back. -/
theorem slots_join (h : Sliced M) (c : Dev nD) :
    iprop(slotAny M 0 c ∗ slotAny M 1 c ∗ slotAny M 2 c)
      ⊢ (iprop(∃ f : Buf (Elt F) (M.view.loc (c : Thread nD τ)), M.view.loc (c : Thread nD τ) ↦{fullShare} f) : sProp 𝕄) := by
  unfold slotAny
  exact Ring.slots3_join (ℓ := M.view.loc (c : Thread nD τ)) (fun j => (slot M j).view.set) h.1 h.2 _ _ _ (fun _ => rfl) (fun _ => rfl) (fun _ => rfl)

end Slots

/-! ## Whole buffers read and written; the payloads -/

/-- `w`'s whole buffer as a rectangle. -/
abbrev wR : Rect S1024x1024 := Rect.unit (s := S1024x1024) ![0, 0] S1024x1024.size inb_S1024x1024_S1024x1024_0_0

omit [FloatOps F] in
/-- `w` read whole; -/
theorem read_w (f : (cc0_stg1_0 : Ref sig .tc).ty.Contents (Elt F)) : (wM : Memref sig .tc .vmem S1024x1024 .bf16).view.readAt (Elt F) wR.toLoadRect f = f :=
  Memref.readAt_unit_zero (Elt F) cc0_stg1_0 zero2 _ f
omit [FloatOps F] in
/-- its working copy written whole. -/
theorem write_v (f w : (cc0_scratch2 : Ref sig .tc).ty.Contents (Elt F)) :
    ((vM : Memref sig .tc .vmem S1024x1024 .bf16).access wR : View sig .tc _ _ _).write (Elt F) f w Finset.univ = w :=
  Memref.write_access_unit_zero_univ (Elt F) cc0_scratch2 zero2 _ f w

/-- The block put into a staging slot is the block read, under a unit axis; -/
theorem pay_send (v : Vec F S256x256 .bf16) : shapeCast S256x256 (k0_pay1 v) shapeCasts_S1x256x256_S256x256 = v := by
  unfold k0_pay1; dsimp only; rw [shapeCast_shapeCast, shapeCast_self]
/-- the working copy of `w` is `w`; -/
theorem pay_copy (v : Vec F S1024x1024 .bf16) : k0_pay4 v = v := by
  unfold k0_pay4; dsimp only; rw [shapeCast_self, shapeCast_self]
/-- the sum put into the result is one more partial product. -/
theorem pay_acc (o : Vec F S256x1024 .f32) (b : Vec F S1x256x256 .bf16) (v : Vec F S256x1024 .bf16) :
    k0_pay6 o b v = acc o (shapeCast S256x256 b shapeCasts_S1x256x256_S256x256) v := by
  unfold k0_pay6 acc; dsimp only; rw [shapeCast_self]

omit [FloatOps F] in
/-- A memory held whole is its buffer held whole. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A device's seven cells, one by one. -/
theorem bigSep_cellIx (Φ : CellIx → sProp 𝕄) :
    bigSep Finset.univ Φ = iprop(Φ (.inl ()) ∗ (Φ (.inr (.inl 0)) ∗ Φ (.inr (.inl 1)) ∗ Φ (.inr (.inl 2))) ∗ (Φ (.inr (.inr 0)) ∗ Φ (.inr (.inr 1)) ∗ Φ (.inr (.inr 2)))) := by
  rw [BI.bigSep_univ_sum, BI.bigSep_univ_sum, Ring.bigSep_fin3, Ring.bigSep_fin3, show (Finset.univ : Finset Unit) = {()} from rfl, bigSep_singleton]; rfl

omit [FloatOps F] in
/-- The windows, one by one. -/
theorem bigSep_W (Φ : Fin cfg0.W → sProp 𝕄) : bigSep Finset.univ Φ = iprop(Φ (0 : Fin 3) ∗ Φ (1 : Fin 3) ∗ Φ (2 : Fin 3)) := bigSep_W0 Φ

/-- Both inputs are fetched at the point. -/
theorem fetch_in (t : Fin cfg0.N) (w : Fin 3) (hw : w ≠ 2) : (cfg0.win w).fetch t = true := by
  rw [fin_N0 t]; revert w; decide

/-! ## The body -/

section Body

variable (K : GSem nD τ sig → ℕ)

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given, under the cells' names; -/
def bodyPre (c : Dev nD) : sProp 𝕄 :=
  iprop((startAt m ρ K c ∗ scratch c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- and what it gives back. -/
def bodyPost (c : Dev nD) : sProp 𝕄 :=
  iprop(Φ₁ c ∗ (dats m ρ 0 c).owesAt () t0_0.succ
    ∗ stg c cc0_stg0_0 (xin m ρ c) ∗ stg c cc0_stg1_0 (win m ρ c) ∗ stg c cc0_stg2_0 (outAt m ρ c))

/-- The device's own product, off its printed rows. -/
theorem own_eq (c : Dev nD) :
    k0_pay5 ((xM : Memref sig .tc .vmem S1024x256 .bf16).view.readAt (Elt F) (Rect.unit (s := S1024x256) (k0_off2 c) S256x256.size (k0_off2_inb c)).toLoadRect (xin m ρ c))
        ((vM : Memref sig .tc .vmem S1024x1024 .bf16).view.readAt (Elt F) (Rect.unit (s := S1024x1024) (k0_off3 c) S256x1024.size (k0_off3_inb c)).toLoadRect (win m ρ c))
      = sum0 m ρ c := by
  have e (off : Fin 2 → Nat) (h : off = ![256 * c.val, 0]) (hin : ∀ a, off a + S256x256.size a ≤ S1024x256.size a) :
      (xM : Memref sig .tc .vmem S1024x256 .bf16).view.readAt (Elt F) (Rect.unit (s := S1024x256) off S256x256.size hin).toLoadRect (xin m ρ c) = xrow (xin m ρ c) c := by
    subst h; rfl
  have e' (off : Fin 2 → Nat) (h : off = ![256 * c.val, 0]) (hin : ∀ a, off a + S256x1024.size a ≤ S1024x1024.size a) :
      (vM : Memref sig .tc .vmem S1024x1024 .bf16).view.readAt (Elt F) (Rect.unit (s := S1024x1024) off S256x1024.size hin).toLoadRect (win m ρ c) = wrow (win m ρ c) c := by
    subst h; rfl
  rw [sum0, e _ (k0_off2_eq c), e' _ (k0_off3_eq c)]

/-- All seven cells close. -/
theorem close_all (c : Dev nD) :
    iprop(know m ρ K ∗ bigSep Finset.univ fun k : CellIx => atPos EX (cellAt (c, k)) (0 + 1) ∅ 0)
      ⊢ iprop(|={Set.univ}=> counters (F := F) c) := by
  refine (sep_mono_left (bigSep_of_persistent (Finset.univ : Finset CellIx) _)).trans ?_
  rw [← bigSep_sep']
  exact BIBase.Entails.trans (bigSep_mono fun k _ => close m ρ K c k (Set.mem_univ _)) (bigSep_fupd _ _)

set_option maxHeartbeats 3200000 in
/-- The body runs from `bodyPre` to `bodyPost`: its steps in program order. -/
theorem sound_body (c : Dev nD) (Kt : PUnit → sProp 𝕄) :
    iprop(bodyPre m ρ K c ∗ (bodyPost m ρ c -∗ Kt ⟨⟩))
      ⊢ wpX c (cc0_body (F := F) (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) (Memref.whole cc0_scratch2) (Memref.isWhole_whole _) cc0_scratch3 cc0_scratch4) Kt := by
  simp only [wpX, cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre startAt scratch creds poss toksFor
  rw [bigSep_cellIx, Ring.bigSep_fin3, Ring.bigSep_fin3]
  iintro ⟨⟨⟨⟨#Hkn, ⟨HatB, ⟨HatS0, HatS1, HatS2⟩, ⟨HatR0, HatR1, HatR2⟩⟩, ⟨⟨HtB0, HtS0, HtR0⟩, ⟨HtB1, HtS1, HtR1⟩, ⟨HtB2, HtS2, HtR2⟩⟩,
      ⟨HcB, HcR0, HcR1, HcR2⟩, #Hlev⟩, Hst, Hcm, ⟨%v0, Hv⟩⟩, Ho, ⟨%d0, %g0, %hg0, Hx⟩, ⟨%d1, %g1, %hg1, Hw⟩, ⟨%d2, %g2, %hg2, Hout⟩⟩, Hk⟩
  have hx : g0 = xin m ρ c := by rw [hg0]; unfold Dat.before; rw [if_pos (fetch_in t0_0 0 (by decide))]; rfl
  have hw : g1 = win m ρ c := by rw [hg1]; unfold Dat.before; rw [if_pos (fetch_in t0_0 1 (by decide))]; rfl
  subst hx hw
  unfold Dat.owesAt Pipeline.owesWithin
  icases Ho with ⟨%W, %hW, HO⟩
  rw [show (dats m ρ 0 c).owed t0_0.castSucc = owed₀ c from rfl]
  ihave Hst := (slots_split (M := stM) sliced_st c) $$ Hst
  icases Hst with ⟨Hst0, Hst1, Hst2⟩
  ihave Hcm := (slots_split (M := cmM) sliced_cm c) $$ Hcm
  icases Hcm with ⟨Hcm0, Hcm1, Hcm2⟩
  -- the three signals
  iapply (wp_ready m ρ K c 0 _ (dev1_eq c) (owedR c + barDue 2 c + barDue 1 c) rfl) $$ [HO HtB0 Hcm2]
  · isplitr; · iexact Hkn
    isplitl [HO]; · iexact HO
    isplitl [HtB0]; · iexact HtB0
    iexact Hcm2
  iintro HO
  iapply (wp_ready m ρ K c 1 _ (dev2_eq c) (owedR c + barDue 2 c) rfl) $$ [HO HtB1 Hcm1]
  · isplitr; · iexact Hkn
    isplitl [HO]; · iexact HO
    isplitl [HtB1]; · iexact HtB1
    iexact Hcm1
  iintro HO
  iapply (wp_ready m ρ K c 2 _ (dev3_eq c) (owedR c) rfl) $$ [HO HtB2 Hcm0]
  · isplitr; · iexact Hkn
    isplitl [HO]; · iexact HO
    isplitl [HtB2]; · iexact HtB2
    iexact Hcm0
  iintro HO
  -- the barrier
  iapply (wp_gather m ρ K c) $$ [HcB HO HatB]
  · isplitr; · iexact Hkn
    isplitr; · iexact Hlev
    isplitl [HcB]; · iexact HcB
    isplitl [HO]; · iexact HO
    iexact HatB
  rw [Ring.bigSep_fin3]
  iintro ⟨HO, HatB, Hcm0, Hcm1, Hcm2⟩
  unfold owedR
  -- the three blocks sent
  iapply (wp_push m ρ K c 0 _ (dev4_eq c) (off1_eq c 0) _ k0_pay1 pay_send (recvDue 2 c + recvDue 1 c) rfl) $$ [Hx Hst0 Hcm0 HO HtS0 HtR0]
  · isplitr; · iexact Hkn
    isplitl [Hx]; · iexact Hx
    isplitl [Hst0]; · iexact Hst0
    isplitl [Hcm0]; · iexact Hcm0
    isplitl [HO]; · iexact HO
    isplitl [HtS0]; · iexact HtS0
    iexact HtR0
  iintro ⟨Hx, HcS0, HO⟩
  iapply (wp_push m ρ K c 1 _ (dev5_eq c) (off1_eq c 1) _ k0_pay2 pay_send (recvDue 2 c) rfl) $$ [Hx Hst1 Hcm1 HO HtS1 HtR1]
  · isplitr; · iexact Hkn
    isplitl [Hx]; · iexact Hx
    isplitl [Hst1]; · iexact Hst1
    isplitl [Hcm1]; · iexact Hcm1
    isplitl [HO]; · iexact HO
    isplitl [HtS1]; · iexact HtS1
    iexact HtR1
  iintro ⟨Hx, HcS1, HO⟩
  iapply (wp_push m ρ K c 2 _ (dev6_eq c) (off1_eq c 2) _ k0_pay3 pay_send 0 (zero_add _).symm) $$ [Hx Hst2 Hcm2 HO HtS2 HtR2]
  · isplitr; · iexact Hkn
    isplitl [Hx]; · iexact Hx
    isplitl [Hst2]; · iexact Hst2
    isplitl [Hcm2]; · iexact Hcm2
    isplitl [HO]; · iexact HO
    isplitl [HtS2]; · iexact HtS2
    iexact HtR2
  iintro ⟨Hx, HcS2, HO⟩
  -- `w` copied; the device's own product
  iapply (wp_load Variants.none (c : Thread nD τ) none Set.univ (m := wM) (Finset.subset_univ _)) $$ Hw; iintro Hw
  iapply (wp_load Variants.none (c : Thread nD τ) none Set.univ (m := vM) (Finset.subset_univ _)) $$ Hv; iintro Hv
  iapply (wp_store Variants.none (c : Thread nD τ) none Set.univ (m := vM) (r := wR) (Mk := Finset.univ) (Finset.subset_univ _)) $$ Hv; iintro Hv
  rw [read_w, pay_copy, write_v]
  iapply (wp_load Variants.none (c : Thread nD τ) none Set.univ (m := xM) (Finset.subset_univ _)) $$ Hx; iintro Hx
  iapply (wp_load Variants.none (c : Thread nD τ) none Set.univ (m := vM) (Finset.subset_univ _)) $$ Hv; iintro Hv
  iapply (wp_load Variants.none (c : Thread nD τ) none Set.univ (m := oM) (Finset.subset_univ _)) $$ Hout; iintro Hout
  iapply (wp_store Variants.none (c : Thread nD τ) none Set.univ (m := oM) (r := oR) (Mk := Finset.univ) (Finset.subset_univ _)) $$ Hout; iintro Hout
  rw [write_o, own_eq]
  -- the three blocks received
  iapply (wp_pull m ρ K c 0 (off4_eq c 0) _ k0_pay6 pay_acc _) $$ [Hv Hout HcR0 HO HatR0]
  · isplitr; · iexact Hkn
    isplitl [Hv]; · iexact Hv
    isplitl [Hout]; · iexact Hout
    isplitl [HcR0]; · iexact HcR0
    isplitl [HO]; · iexact HO
    iexact HatR0
  iintro ⟨Hv, Hout, Hcm0, HO, HatR0⟩
  iapply (wp_pull m ρ K c 2 (off4_eq c 2) _ k0_pay7 pay_acc _) $$ [Hv Hout HcR2 HO HatR2]
  · isplitr; · iexact Hkn
    isplitl [Hv]; · iexact Hv
    isplitl [Hout]; · iexact Hout
    isplitl [HcR2]; · iexact HcR2
    isplitl [HO]; · iexact HO
    iexact HatR2
  iintro ⟨Hv, Hout, Hcm2, HO, HatR2⟩
  iapply (wp_pull m ρ K c 1 (off4_eq c 1) _ k0_pay8 pay_acc _) $$ [Hv Hout HcR1 HO HatR1]
  · isplitr; · iexact Hkn
    isplitl [Hv]; · iexact Hv
    isplitl [Hout]; · iexact Hout
    isplitl [HcR1]; · iexact HcR1
    isplitl [HO]; · iexact HO
    iexact HatR1
  iintro ⟨Hv, Hout, Hcm1, HO, HatR1⟩
  -- the maximum with zero
  iapply (wp_load Variants.none (c : Thread nD τ) none Set.univ (m := oM) (Finset.subset_univ _)) $$ Hout; iintro Hout
  iapply (wp_load Variants.none (c : Thread nD τ) none Set.univ (m := oM) (Finset.subset_univ _)) $$ Hout; iintro Hout
  iapply (wp_store Variants.none (c : Thread nD τ) none Set.univ (m := oM) (r := oR) (Mk := Finset.univ) (Finset.subset_univ _)) $$ Hout; iintro Hout
  rw [write_o, read_o]
  -- the staging slots back
  iapply (wp_drain m ρ K c 0) $$ [HcS0 HO HatS0]
  · isplitr; · iexact Hkn
    isplitl [HcS0]; · iexact HcS0
    isplitl [HO]; · iexact HO
    iexact HatS0
  iintro ⟨Hst0, HO, HatS0⟩
  iapply (wp_drain m ρ K c 1) $$ [HcS1 HO HatS1]
  · isplitr; · iexact Hkn
    isplitl [HcS1]; · iexact HcS1
    isplitl [HO]; · iexact HO
    iexact HatS1
  iintro ⟨Hst1, HO, HatS1⟩
  iapply (wp_drain m ρ K c 2) $$ [HcS2 HO HatS2]
  · isplitr; · iexact Hkn
    isplitl [HcS2]; · iexact HcS2
    isplitl [HO]; · iexact HO
    iexact HatS2
  iintro ⟨Hst2, HO, HatS2⟩
  unfold wpX; rw [wp_ret]
  imod (close_all m ρ K c) $$ [HatB HatS0 HatS1 HatS2 HatR0 HatR1 HatR2] with Hz
  · isplitr; · iexact Hkn
    rw [bigSep_cellIx]
    isplitl [HatB]; · iexact HatB
    isplitl [HatS0 HatS1 HatS2]
    · isplitl [HatS0]; · iexact HatS0
      isplitl [HatS1]; · iexact HatS1
      iexact HatS2
    isplitl [HatR0]; · iexact HatR0
    isplitl [HatR1]; · iexact HatR1
    iexact HatR2
  imodintro
  iapply Hk
  unfold bodyPost Φ₁ scratch Dat.owesAt Pipeline.owesWithin
  rw [show (dats m ρ 0 c).owed t0_0.succ = 0 from rfl]
  isplitl [Hz Hst0 Hst1 Hst2 Hcm0 Hcm1 Hcm2 Hv]
  · isplitl [Hst0 Hst1 Hst2 Hcm0 Hcm1 Hcm2 Hv]
    · isplitl [Hst0 Hst1 Hst2]
      · iapply (slots_join (M := stM) sliced_st c)
        isplitl [Hst0]; · iexact Hst0
        isplitl [Hst1]; · iexact Hst1
        iexact Hst2
      isplitl [Hcm0 Hcm1 Hcm2]
      · iapply (slots_join (M := cmM) sliced_cm c)
        isplitl [Hcm0]; · iexact Hcm0
        isplitl [Hcm1]; · iexact Hcm1
        iexact Hcm2
      iexists _; iexact Hv
    iexact Hz
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _; isplitr; · (ipureintro; rfl)
  iexact Hout

/-- What the point starts from, its staged inputs named; -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- The body meets its proof data on every device. -/
theorem body_obligation (c : Dev nD) : BodyObligation (dats (F := F) m ρ 0 c) (defs₀ (F := F)) Variants.none () Set.univ := fun t => by
  rw [fin_N0 t]
  rw [bigSep_W, bigSep_W]
  simp only [owns_whole_eq]
  show bodyPre' m ρ c ⊢ wpX c (cc0_body (F := F) (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) (Memref.whole cc0_scratch2) (Memref.isWhole_whole _) cc0_scratch3 cc0_scratch4)
        (fun _ => bodyPost m ρ c)
  unfold bodyPre' Φ₀ start
  iintro ⟨⟨⟨%K, Hstart⟩, Hscr⟩, Hrest⟩
  iapply (sound_body m ρ K c fun _ => bodyPost m ρ c)
  unfold bodyPre
  isplitl
  · isplitl [Hstart Hscr]
    · isplitl [Hstart] <;> iassumption
    iexact Hrest
  · iintro H; iexact H

end Body

end Cert.Exchange

end
-- ==== Proof.Run.lean ====
/-
# The four devices' run

The launch deals the exchange's ghost state: every cell's record to every device, to each device its own positions, the
tokens of the duties it pays, and the credit it waits for. From there each device's body runs, and the whole program
terminates with every argument unchanged, every counter at zero and each result array at the computed rows.
-/
module

public import proofs.«01_k».proof.Proof.Body
public import Idealize.ShloMosaic.Lib.Pipeline.CollectiveSegs
public import Idealize.ShloMosaic.Lib.Pipeline.ValueKit

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The send and receive semaphores. -/
def osem (k : Fin 3 ⊕ Fin 3) : SemLoc sig := semAt (.inr k)

/-- They are scoped, distinct, and no staging semaphores. -/
theorem ownSemFacts : Pipeline.OwnSemFacts cfg0.spec osem := by decide

omit [FloatOps F] in
/-- A device's counters are its barrier semaphore, which outlives the kernel, and the kernel's own. -/
theorem counters_eq (c : Dev nD) :
    (counters c : sProp 𝕄) = iprop(unscopedSems0 c ∗ Pipeline.ownSems0 (Ix := Unit) (Name := ℕ) (U := UU) (Lvl := ℕ) (Val := Elt F) (τ := τ) osem c) := by
  unfold counters unscopedSems0
  rw [BI.bigSep_univ_sum, bigSep_eq_bigSepL_of_eq [SemLoc.reg barS] (by decide) (by decide), show (Finset.univ : Finset Unit) = {()} from rfl, bigSep_singleton]
  rfl

/-! ## The tokens, dealt to the devices that pay with them -/

/-- The token of device `c`, displacement `j` and kind `k`: a barrier's unit, a send cell's credit, a receive cell's credit. -/
def tokAt (p : Dev nD × Fin 3 × Fin 3) : GSem nD τ sig × ℕ × Fin 3 := match p.2.2 with
  | 0 => (barCell (fwd p.2.1 p.1), 0, p.2.1.rev)
  | 1 => (sendCell p.2.1 p.1, 0, 0)
  | 2 => (recvCell p.2.1 (fwd p.2.1 p.1), 0, 0)
/-- Who pays with a token. -/
def payer (x : GSem nD τ sig × ℕ × Fin 3) : Dev nD × Fin 3 × Fin 3 := match role x.1.2 with
  | .bar => (fwd x.2.2 x.1.1.1, x.2.2.rev, 0)
  | .send j => (x.1.1.1, j, 1)
  | .recv j => (bwd j x.1.1.1, j, 2)
  | .other => (x.1.1.1, 0, 0)
/-- The token names its payer. -/
theorem payer_tokAt (p : Dev nD × Fin 3 × Fin 3) : payer (tokAt p) = p := by
  obtain ⟨c, j, k⟩ := p
  fin_cases k
  · show payer (barCell (fwd j c), 0, j.rev) = _
    unfold payer; rw [role_bar]; show (fwd j.rev (fwd j c), j.rev.rev, _) = _; rw [fwd_rev_fwd, Fin.rev_rev]; rfl
  · show payer (sendCell j c, 0, 0) = _
    unfold payer; rw [role_send]; rfl
  · show payer (recvCell j (fwd j c), 0, 0) = _
    unfold payer; rw [role_recv]; show (bwd j (fwd j c), j, _) = _; rw [bwd_fwd]; rfl
/-- All the tokens. -/
def tokens : Finset (GSem nD τ sig × ℕ × Fin 3) := Finset.univ.map ⟨tokAt, Function.LeftInverse.injective payer_tokAt⟩

omit [FloatOps F] in
/-- They are the devices' tokens. -/
theorem tokens_eq : bigSep tokens (fun x => (dutyTok EX x.1 x.2.1 x.2.2 : sProp 𝕄))
    = bigSep Finset.univ fun c : Dev nD => bigSep Finset.univ fun j : Fin 3 => toksFor j c := by
  unfold tokens
  rw [bigSep_map, bigSep_univ_prod]
  refine bigSep_congr fun c _ => ?_
  rw [bigSep_univ_prod]
  exact bigSep_congr fun j _ => by rw [Ring.bigSep_fin3]; rfl

omit [FloatOps F] in
/-- A family over the cells is a family over the devices and their cells. -/
theorem cells_eq (Φ : GSem nD τ sig → sProp 𝕄) : bigSep cells Φ = bigSep Finset.univ fun c : Dev nD => bigSep Finset.univ fun k : CellIx => Φ (cellAt (c, k)) := by
  unfold cells; rw [bigSep_map, bigSep_univ_prod]

/-! ## The global step -/

/-- The exchange's element at launch. -/
def uX : UX := launchOf cells ∅ tokens

/-- Device `0` carries it. -/
def G (c : Dev nD) : sProp 𝕄 := if c = 0 then BI.own (EX uX) else iprop(emp)
omit [FloatOps F] in
/-- Device `0`'s share is the element; -/
theorem G_zero : (G 0 : sProp 𝕄) = BI.own (EX uX) := if_pos rfl
omit [FloatOps F] in
/-- the others' is nothing. -/
theorem G_ne {c : Dev nD} (h : c ≠ 0) : (G c : sProp 𝕄) = iprop(emp) := if_neg h
/-- What the global step makes of it for device `c`. -/
def G' (c : Dev nD) : sProp 𝕄 := iprop(∃ K, know m ρ K ∗ poss c ∗ bigSep Finset.univ fun j : Fin 3 => toksFor j c)

omit [FloatOps F] in
/-- The element put into device `0`'s hands. -/
theorem deal_intro : BI.own (EX uX) ⊢ (bigSep Finset.univ G : sProp 𝕄) := by
  rw [bigSep_univ_at _ (0 : Dev nD)]
  have h : iprop(emp) ⊢ (bigSep (Finset.univ.erase (0 : Dev nD)) G : sProp 𝕄) :=
    (bigSep_of_persistent (Finset.univ.erase (0 : Dev nD)) (iprop(emp) : sProp 𝕄)).trans
      (bigSep_mono fun c hc => Entails.of_eq (G_ne (Finset.ne_of_mem_erase hc)).symm)
  iintro H
  isplitl
  · rw [G_zero]; iexact H
  · iapply h; iempintro

omit [FloatOps F] in
/-- What every device may know is dealt to each, with the device's own. -/
theorem deal (K : GSem nD τ sig → ℕ) :
    (iprop(((bigSep (cells ∪ ∅) fun g => cellInv EX (sched m ρ) (K g) g) ∗ bigSep cells fun g => reached EX g 0)
        ∗ (bigSep cells fun g => atPos EX g 0 ∅ 0) ∗ bigSep tokens fun x => dutyTok EX x.1 x.2.1 x.2.2) : sProp 𝕄)
      ⊢ bigSep Finset.univ (G' m ρ) := by
  rw [Finset.union_empty, tokens_eq, cells_eq (fun g => atPos EX g 0 ∅ 0)]
  show (iprop(know m ρ K ∗ (bigSep Finset.univ fun c : Dev nD => poss c) ∗ bigSep Finset.univ fun c : Dev nD => bigSep Finset.univ fun j : Fin 3 => toksFor j c) : sProp 𝕄) ⊢ _
  have h (c : Dev nD) : (iprop(know m ρ K ∗ poss c ∗ bigSep Finset.univ fun j : Fin 3 => toksFor j c) : sProp 𝕄) ⊢ G' m ρ c := by
    unfold G'; iintro H; iexists K; iexact H
  rw [← bigSep_sep']
  refine (sep_mono_left (bigSep_of_persistent (Finset.univ : Finset (Dev nD)) _)).trans ?_
  rw [← bigSep_sep']
  exact bigSep_mono fun c _ => h c

omit [FloatOps F] in
/-- The global step: the semaphores of all devices at zero and the element become the cells' records, known everywhere,
    and every device's positions and tokens. -/
theorem glob : (bigSep Finset.univ fun c => iprop(Pipeline.ownSems0 (Ix := Unit) (Name := ℕ) (U := UU) (Lvl := ℕ) (Val := Elt F) (τ := τ) osem c ∗ unscopedSems0 c ∗ G c) : sProp 𝕄)
    ⊢ |={Set.univ}=> bigSep Finset.univ (G' m ρ) := by
  have hv : (bigSep Finset.univ fun c => iprop(Pipeline.ownSems0 (Ix := Unit) (Name := ℕ) (U := UU) (Lvl := ℕ) (Val := Elt F) (τ := τ) osem c ∗ unscopedSems0 c ∗ G c) : sProp 𝕄)
      ⊢ iprop(bigSep cells (fun g => semVal g 0) ∗ BI.own (EX uX)) := by
    refine BIBase.Entails.trans (bigSep_mono fun c _ => show _ ⊢ iprop(counters c ∗ G c) from ?_) ?_
    · rw [counters_eq]
      iintro ⟨H1, H2, H3⟩
      isplitl [H1 H2]
      · isplitl [H2] <;> iassumption
      iexact H3
    · rw [bigSep_sep', cells_eq]
      exact sep_mono_right ((bigSep_elim (Finset.mem_univ (0 : Dev nD))).trans (Entails.of_eq G_zero))
  refine hv.trans ?_
  unfold uX
  iintro H
  imod (Rounds.fund_launch EX (sched m ρ) (S := cells) (Sd := ∅) (Finset.disjoint_empty_right _) (fun _ h => absurd h (Finset.notMem_empty _)) tokens) $$ H
    with ⟨%K, -, #HI, #HR, Hat, -, Htok⟩
  imodintro
  iapply (deal m ρ K)
  isplitr
  · isplitr <;> iassumption
  isplitl [Hat] <;> iassumption

/-! ## The credit at launch -/

omit [FloatOps F] in
/-- What the devices owe one cell of the device `j + 1` places on is, to each, the credit of its own such cell. -/
theorem cred_at (mk : Dev nD → GSem nD τ sig) (hmk : ∀ d, (mk d).1 = (d : Thread nD τ)) (n : ℕ) (j : Fin 3) (c : Dev nD) :
    (Pipeline.launchCred (fun d => tallyAt (mk (fwd j d)) () n) c : sProp 𝕄) = cred (tallyAt (mk c) () n) :=
  Pipeline.launchCred_of_sum _ (fun d => tallyAt (mk d) () n) (Equiv.sum_comp (turn j) fun d => (tallyAt (mk d) () n : CellTallies nD τ sig Unit))
    (fun d g h => by
      by_contra hg
      exact h (tallyAt_ne_cell (fun e => hg ((congrArg Prod.fst e).trans (hmk d))) _ _)) c

omit [FloatOps F] in
/-- The launch credit of a device: three units at its barrier, a block's credit at each of its receive cells. -/
theorem launch_creds (c : Dev nD) : (Pipeline.launchCred owed₀ c : sProp 𝕄) ⊢ creds c := by
  have e : owed₀ = fun d => recvDue 2 d + recvDue 1 d + recvDue 0 d + barDue 2 d + barDue 1 d + barDue 0 d := rfl
  rw [e, Pipeline.launchCred_add, Pipeline.launchCred_add, Pipeline.launchCred_add, Pipeline.launchCred_add, Pipeline.launchCred_add]
  rw [cred_at (recvCell 2) (fun _ => rfl), cred_at (recvCell 1) (fun _ => rfl), cred_at (recvCell 0) (fun _ => rfl),
    cred_at barCell (fun _ => rfl) 1 2, cred_at barCell (fun _ => rfl) 1 1, cred_at barCell (fun _ => rfl) 1 0]
  unfold creds
  rw [Ring.bigSep_fin3, show (tallyAt (barCell c) () 3 : CellTallies nD τ sig Unit) = tallyAt (barCell c) () 1 + tallyAt (barCell c) () 1 + tallyAt (barCell c) () 1 by
    rw [tallyAt_add, tallyAt_add]]
  iintro ⟨⟨⟨⟨⟨H2, H1⟩, H0⟩, HB2⟩, HB1⟩, HB0⟩
  isplitl [HB2 HB1 HB0]
  · iapply (cred_add _ _).2
    isplitl [HB2 HB1]
    · iapply (cred_add _ _).2
      isplitl [HB2] <;> iassumption
    iexact HB0
  isplitl [H0]; · iexact H0
  isplitl [H1] <;> iassumption

/-! ## Entering and leaving the kernel -/

omit [FloatOps F] in
/-- The element every device's staging and the exchange start from. -/
def u₀ : UU := (initOf (Pipeline.cells cfgs cellOf_inj) (Pipeline.launchToks cfgs cellOf_inj), uX)

/-- What a device holds at launch is what its body starts from. -/
theorem start_intro (c : Dev nD) :
    iprop(Pipeline.unscopedRestP Pipeline.Prefetch.none cfg0.spec c (fun b => m ((c : Thread nD τ).loc b)) ∗ levAts L lv ∗ Pipeline.launchCred owed₀ c ∗ prngReg c (ρ c) ∗ G' m ρ c)
      ⊢ |={Set.univ}=> (iprop(start m ρ c ∗ emp) : sProp 𝕄) := by
  iintro ⟨-, Hl, Hc, -, HG⟩
  ihave Hc := (launch_creds c) $$ Hc
  imodintro
  isplitl
  · unfold start startAt G'
    icases HG with ⟨%K, HK, HP, HT⟩
    iexists K
    isplitl [HK]; · iexact HK
    isplitl [HP]; · iexact HP
    isplitl [HT]; · iexact HT
    isplitl [Hc] <;> iassumption
  · iempintro

/-- With the kernel's own buffers it is the body's first state. -/
theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- The body's last state gives every counter back at zero, and the kernel's own buffers. -/
theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [counters_eq]
  iintro ⟨Hr, Hu, Ho⟩
  isplitl [Hu]; · iexact Hu
  isplitl [Ho] <;> iassumption

/-- The staging semaphores lie below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait (n := 0) c _ (by revert c; fin_cases w <;> fin_cases s <;> decide) (by
      rcases t with ⟨_ | _, ht⟩
      · exact above_owed₀ c
      · exact Above.zero 0)

/-- A window's array is held whole. -/
theorem share_eq (c : Dev nD) (w : Fin cfg0.W) : (dats m ρ 0 c).share w = fullShare := by unfold Dat.share; split <;> rfl

/-! ## The run -/

/-- What device `c`'s arrays hold at the end. -/
def finalA (c : Dev nD) (w : Fin cfg0.W) : Buf (Elt F) ((cfg0.win w).arr.view.loc (c : Thread nD τ)) := (dats m ρ 0 c).arrAt w cfg0.N

/-- On four devices, for any float values, from any memory with every counter at zero, every weakly fair execution
    terminates; at the end each device's arrays hold `finalA` and every counter is zero again. -/
theorem run_arrays : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := owed₀) (howed₀ := fun _ => rfl) (howedN := fun _ => rfl)
    (L := L) (lv := lv) (hL := L_of_ne) (hwaits := waits m ρ)
    (G := G) (G' := G' m ρ) (u₀ := u₀)
    (hu₀ := by
      unfold u₀
      iintro Hu
      ihave H := (ownU_pair _ _) $$ Hu
      icases H with ⟨HP, HX⟩
      ihave HG := deal_intro $$ HX
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The rows `x` end as they started. -/
theorem finalA_x (c : Dev nD) : finalA m ρ c (0 : Fin 3) = m ((cfg0.win (0 : Fin 3)).arr.view.loc (c : Thread nD τ)) := (dats (F := F) m ρ 0 c).arrAt_in (0 : Fin 3) rfl _
/-- The weights end as they started. -/
theorem finalA_w (c : Dev nD) : finalA m ρ c (1 : Fin 3) = m ((cfg0.win (1 : Fin 3)).arr.view.loc (c : Thread nD τ)) := (dats (F := F) m ρ 0 c).arrAt_in (1 : Fin 3) rfl _

/-- The result array, read as the body's block, ends as what the body leaves. -/
theorem finalA_out (c : Dev nD) : finalA m ρ c (2 : Fin 3) = outAt m ρ c :=
  (dats (F := F) m ρ 0 c).arrAt_eq_of_after_last (2 : Fin 3) t0_0 (by decide +kernel) _ (fun j => rfl)

/-- The run, by the names of the arrays: both arguments unchanged, each device's rows of the result at the sum of the
    four blocks' products, and every counter at zero. -/
theorem run_main : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c (2 : Fin 3)).trans (finalA_out m ρ c), (h.1 c (0 : Fin 3)).trans (finalA_x m ρ c),
    (h.1 c (1 : Fin 3)).trans (finalA_w m ρ c)⟩, h.2⟩) (run_arrays m ρ)

end Cert.Exchange

end
-- ==== Proof.Value.lean ====
/-
# The result, as extended reals

Device `c` ends with rows `256 c … 256 c + 255` of `max (x · w) 0`: its own block's product and the three it receives are
the four parts of the contraction over the `1024` columns of `x`, each `256` long, and their sum in any order is the whole.
-/
module

public import proofs.«01_k».proof.Proof.Protocol
public import Idealize.ShloMosaic.Lib.Pointwise
public import Idealize.ShloMosaic.Lib.Layout
public import Idealize.ShloMosaic.Lib.Pipeline.ValueKit
public import proofs.«01_k».proof.Proof.Gen.ReferenceIdeal.Run

@[expose] public section

set_option maxRecDepth 16384

noncomputable section

namespace Cert.Exchange

open Cert.KernelIdeal Cert.KernelIdeal.Gen

open Idealize.ShloMosaic
open Idealize.ShloMosaic.TcCoe
open Idealize.SL.Sem

variable (m : (ℓ : Loc nD τ sig) → Buf (Elt Ideal) ℓ) (ρ : Dev nD → PrngReg)

/-- A whole array of `1024 × 1024` bfloat16s, read as extended reals. -/
abbrev Whole := FVec Ideal ⟨2, ![1024, 1024]⟩ .bf16

/-- Row or column `i` of block `s`, in the whole. -/
def at4 (s : Fin 4) (i : Fin 256) : Fin 1024 := ⟨s.val * 256 + i.val, by omega⟩

/-- The part of the contraction over block `s` of the contracted axis, at row `R` and column `l`. -/
def part (X W : Whole) (R l : Fin 1024) (s : Fin 4) : EReal := ∑ k : Fin 256, X (ix2 R (at4 s k)) * W (ix2 (at4 s k) l)

/-- The four parts, in the order a device adds them, are the whole contraction. -/
theorem parts_eq (X W : Whole) (R l : Fin 1024) (c : Fin 4) :
    part X W R l c + part X W R l (bwd 0 c) + part X W R l (bwd 2 c) + part X W R l (bwd 1 c) = ∑ k : Fin 1024, X (ix2 R k) * W (ix2 k l) := by
  have h : ∀ f : Fin 4 → EReal, f c + f (bwd 0 c) + f (bwd 2 c) + f (bwd 1 c) = ∑ s, f s := fun f => by
    rw [Fin.sum_univ_four]; fin_cases c
    · show f 0 + f 3 + f 1 + f 2 = _; ac_rfl
    · show f 1 + f 0 + f 2 + f 3 = _; ac_rfl
    · show f 2 + f 1 + f 3 + f 0 = _; ac_rfl
    · show f 3 + f 2 + f 0 + f 1 = _; ac_rfl
  rw [h]
  exact Fin.sum_mul_add_fin (S := 4) (n := 256) (L := 1024) (fun k => X (ix2 R k) * W (ix2 k l))

/-- A block of rows of a device's columns of `x`, by coordinates in the whole. -/
theorem xrow_apply {X : Whole} {c s : Dev nD} (hX : m ((s : Thread nD τ).loc main_arg0) = Layout.block ⟨2, ![1024, 256]⟩ ⟨2, ![1024, 1024]⟩ 1 4 s X) (r k : Fin 256) :
    xrow (xin m ρ s) c (ix2 r k) = X (ix2 (at4 c r) (at4 s k)) := by
  have hi : xrow (xin m ρ s) c (ix2 r k) = m ((s : Thread nD τ).loc main_arg0) (ix2 (at4 c r) k) := by
    refine congrArg (m ((s : Thread nD τ).loc main_arg0)) (funext fun a => Fin.ext ?_)
    fin_cases a
    · show 0 * 1024 + 1 * (256 * c.val + 1 * r.val) = c.val * 256 + r.val; omega
    · show 0 * 256 + 1 * (0 + 1 * k.val) = k.val; omega
  rw [hi, hX, Layout.block_apply, eq_ix2 (Layout.Tiles.idx _ _ _)]; rfl

/-- A block of rows of `w`, by coordinates. -/
theorem wrow_apply {W : Whole} {c s : Dev nD} (hW : m ((c : Thread nD τ).loc main_arg1) = W) (k : Fin 256) (l : Fin 1024) :
    wrow (win m ρ c) s (ix2 k l) = W (ix2 (at4 s k) l) := by
  rw [← hW]
  refine congrArg (m ((c : Thread nD τ).loc main_arg1)) (funext fun a => Fin.ext ?_)
  fin_cases a
  · show 0 * 1024 + 1 * (256 * s.val + 1 * k.val) = s.val * 256 + k.val; omega
  · show 0 * 1024 + 1 * (0 + 1 * l.val) = l.val; omega

/-- One block's product is one part of the contraction. -/
theorem block_product {X W : Whole} {c s : Dev nD} (hX : m ((s : Thread nD τ).loc main_arg0) = Layout.block ⟨2, ![1024, 256]⟩ ⟨2, ![1024, 1024]⟩ 1 4 s X)
    (hW : m ((c : Thread nD τ).loc main_arg1) = W) (r : Fin 256) (l : Fin 1024) :
    ∑ k : Fin 256, xrow (xin m ρ s) c (ix2 r k) * wrow (win m ρ c) s (ix2 k l) = part X W (at4 c r) l s :=
  Finset.sum_congr rfl fun k _ => by rw [xrow_apply m ρ hX, wrow_apply m ρ hW]

/-- The product of two blocks onto a running sum, at an index. -/
theorem acc_apply (o : Vec Ideal S256x1024 .f32) (b : Vec Ideal S256x256 .bf16) (v : Vec Ideal S256x1024 .bf16) (r : Fin 256) (l : Fin 1024) :
    acc o b v (ix2 r l) = (o (ix2 r l) + ∑ k : Fin 256, (b (ix2 r k) : EReal) * v (ix2 k l) : EReal) := by
  pointwise [acc]

/-- The first product, at an index. -/
theorem first_apply (b : Vec Ideal S256x256 .bf16) (v : Vec Ideal S256x1024 .bf16) (r : Fin 256) (l : Fin 1024) :
    k0_pay5 b v (ix2 r l) = (∑ k : Fin 256, (b (ix2 r k) : EReal) * v (ix2 k l) : EReal) := by
  pointwise [k0_pay5]

/-- The last step, at an index: the maximum with zero. -/
theorem last_apply (o : Vec Ideal S256x1024 .f32) (r : Fin 256) (l : Fin 1024) : k0_pay9 o (ix2 r l) = (max (o (ix2 r l) : EReal) 0 : EReal) := by
  pointwise [k0_pay9]

/-- The reference's result, from the whole arrays. -/
def refOut (X W : Whole) : FVec Ideal ⟨2, ![1024, 1024]⟩ .f32 :=
  maximumf (extf .f32 (truncf .bf16 (Host.dotGeneral Cert.ReferenceIdeal.dot_S1024x1024_S1024x1024_S1024x1024_1_0_0_1_n_n none X W) Cert.ReferenceIdeal.Facts₀.bitsLt_bf16_f32) Cert.ReferenceIdeal.Facts₀.bitsLt_bf16_f32)
    (broadcastInDim Cert.ReferenceIdeal.S1024x1024 ![] Cert.ReferenceIdeal.Facts₀.bcast_S_S1024x1024 (constant Cert.ReferenceIdeal.S_ .f32 0x00000000#32))

/-- At an index: the whole contraction, its maximum with zero. -/
theorem refOut_apply (X W : Whole) (R l : Fin 1024) : refOut X W (ix2 R l) = (max (∑ k : Fin 1024, (X (ix2 R k) : EReal) * W (ix2 k l)) 0 : EReal) := by
  pointwise [refOut]

/-- A device's result is its block of the reference's. -/
theorem outAt_eq {X W : Whole} (hX : ∀ s : Dev nD, m ((s : Thread nD τ).loc main_arg0) = Layout.block ⟨2, ![1024, 256]⟩ ⟨2, ![1024, 1024]⟩ 1 4 s X)
    (hW : ∀ c : Dev nD, m ((c : Thread nD τ).loc main_arg1) = W) (c : Dev nD) :
    outAt m ρ c = Layout.block ⟨2, ![256, 1024]⟩ ⟨2, ![1024, 1024]⟩ 0 4 c (refOut X W) := by
  funext i
  obtain ⟨r, l, rfl⟩ : ∃ (r : Fin 256) (l : Fin 1024), i = ix2 r l := ⟨i 0, i 1, eq_ix2 i⟩
  have hb : (Layout.block ⟨2, ![256, 1024]⟩ ⟨2, ![1024, 1024]⟩ 0 4 c (refOut X W)) (ix2 r l) = refOut X W (ix2 (at4 c r) l) := by
    rw [Layout.block_apply, eq_ix2 (Layout.Tiles.idx _ _ _)]; rfl
  rw [hb, refOut_apply, ← parts_eq X W (at4 c r) l c]
  unfold outAt addSlot sum0 got
  rw [last_apply, acc_apply, acc_apply, acc_apply, first_apply, block_product m ρ (hX c) (hW c), block_product m ρ (hX _) (hW c), block_product m ρ (hX _) (hW c),
    block_product m ρ (hX _) (hW c)]

end Cert.Exchange

end
-- ==== Proof.lean ====
/-
# The claims

The kernel, over bit patterns and over extended reals, and the reference each terminate with their arguments unchanged
and every counter at zero, and every device's result is its rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem Cert.Kernel

/-- The kernel's body over bit patterns is the idealization's text at the same values; -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  fin_cases l
  rfl

/-- so is its table of calls. -/
theorem defs_eq : Cert.Kernel.defs (F := Bits) = Cert.KernelIdeal.defs (F := Bits) :=
  congrArg (Pipeline.defs (Cert.KernelIdeal.pcfgs (F := Bits))) bodies_eq

/-- The kernel terminates from any memory with its arguments unchanged and its counters at zero, over bit patterns: the run
    is stated over any float values, and the two programs are one text. -/
theorem frame_kernel : Cert.quiescent_Kernel := fun m ρ _ => by
  rw [defs_eq]
  exact (θ_run Cert.KernelIdeal.defs _ _).mono (fun _ h => ⟨fun c => (h.1 c).2, h.2⟩) (Cert.Exchange.run_main (F := Bits) m ρ)

/-- The same of its idealization, over extended reals. -/
theorem frame_ideal : Cert.quiescent_KernelIdeal := fun m ρ _ =>
  (θ_run Cert.KernelIdeal.defs _ _).mono (fun _ h => ⟨fun c => (h.1 c).2, h.2⟩) (Cert.Exchange.run_main (F := Ideal) m ρ)

/-- The same of the reference. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- Every device's result is its rows of the reference's. -/
theorem value : Cert.algebraic_KernelIdeal_ReferenceIdeal := fun m ρ m' ρ' _ hin =>
  ⟨_, (θ_run Cert.KernelIdeal.defs _ _).mono
      (fun _ h c => ⟨(h.1 c).1.trans (Cert.Exchange.outAt_eq m ρ (fun s => (hin s).1) (fun s => (hin s).2) c), (h.1 c).2⟩)
      (Cert.Exchange.run_main (F := Ideal) m ρ),
    (θ_run Cert.ReferenceIdeal.defs _ _).mono (fun _ h => h 0) (Cert.ReferenceIdeal.Value.run m' ρ')⟩

/-- All of the claim. -/
theorem claim : Cert.Claim :=
  ⟨Cert.Kernel.Gen.facts, Cert.KernelIdeal.Gen.facts, Cert.ReferenceIdeal.Gen.facts, frame_kernel, frame_ideal, frame_reference, trivial, value⟩

end Cert.Proof

end
